-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 256]⟩ ⟨2, ![8192, 4096]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S8192x256 : Shape := ⟨2, ![8192, 256]⟩
abbrev S16x512x8192 : Shape := ⟨3, ![16, 512, 8192]⟩
abbrev S256x8192 : Shape := ⟨2, ![256, 8192]⟩
abbrev S15 : Shape := ⟨1, ![15]⟩
abbrev S3 : Shape := ⟨1, ![3]⟩
abbrev S_ : Shape := ⟨0, ![]⟩
abbrev S1 : Shape := ⟨1, ![1]⟩
abbrev S1x512x8192 : Shape := ⟨3, ![1, 512, 8192]⟩
abbrev S1x256x8192 : Shape := ⟨3, ![1, 256, 8192]⟩
abbrev S256x256 : Shape := ⟨2, ![256, 256]⟩

abbrev nBuf : Space → Nat
  | .hbm => 4
  | .vmem => 4
  | .smem => 0
  | _ => 0

abbrev bufTy : (tb : Table) → Fin (tcTables nBuf tb) → BufTy
  | .hbm, ⟨0, _⟩ => ⟨S512x8192, .f32⟩
  | .hbm, ⟨1, _⟩ => ⟨S8192x256, .f32⟩
  | .hbm, ⟨2, _⟩ => ⟨S8192x256, .f32⟩
  | .hbm, ⟨3, _⟩ => ⟨S16x512x8192, .f32⟩
  | .local _ .vmem, ⟨0, _⟩ => ⟨S8192x256, .f32⟩
  | .local _ .vmem, ⟨1, _⟩ => ⟨S8192x256, .f32⟩
  | .local _ .vmem, ⟨2, _⟩ => ⟨S256x8192, .f32⟩
  | .local _ .vmem, ⟨3, _⟩ => ⟨S256x8192, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let c0_i32_12 : BitVec 32 := 0#32
  ![v2.toNat, 0, 0]
def k0_off2 (d0 : Dev nD) (c0_i32_16 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v21 : BitVec 32 := Scalar.subi v2 c0_i32_16
  let c16_i32_17 : BitVec 32 := 16#32
  let v22 : BitVec 32 := Scalar.addi v21 c16_i32_17
  let c16_i32_18 : BitVec 32 := 16#32
  let v23 : BitVec 32 := Scalar.remsi v22 c16_i32_18
  let c0_i32_25 : BitVec 32 := 0#32
  let c0_i32_26 : BitVec 32 := 0#32
  ![v23.toNat, 0, 0]
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_23 : BitVec 32 := 1#32
  let v26 : BitVec 32 := Scalar.muli v7 c1_i32_23
  let v27 : BitVec 32 := Scalar.addi c0_i32_24 v26
  v27.toNat
def k0_off3 (d0 : Dev nD) (c0_i32_19 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v24 : BitVec 32 := Scalar.addi v2 c0_i32_19
  let c16_i32_20 : BitVec 32 := 16#32
  let v25 : BitVec 32 := Scalar.remsi v24 c16_i32_20
  let c256_i32 : BitVec 32 := 256#32
  let c0_i32_33 : BitVec 32 := 0#32
  ![v25.toNat, 256, 0]
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_31 : BitVec 32 := 1#32
  let v36 : BitVec 32 := Scalar.muli v5 c1_i32_31
  let v37 : BitVec 32 := Scalar.addi c0_i32_32 v36
  v37.toNat
def k0_off4 (d0 : Dev nD) (c0_i32_16 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v21 : BitVec 32 := Scalar.subi v2 c0_i32_16
  let c16_i32_17 : BitVec 32 := 16#32
  let v22 : BitVec 32 := Scalar.addi v21 c16_i32_17
  let c16_i32_18 : BitVec 32 := 16#32
  let v23 : BitVec 32 := Scalar.remsi v22 c16_i32_18
  let c512_i32 : BitVec 32 := 512#32
  let v64 : BitVec 32 := Scalar.muli v23 c512_i32
  let v65 : Index := Scalar.indexCast v64
  let c0_49 : Index := 0#32
  ![v65.toNat, 0]
def k0_off5 (d0 : Dev nD) (c0_i32_19 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v24 : BitVec 32 := Scalar.addi v2 c0_i32_19
  let c16_i32_20 : BitVec 32 := 16#32
  let v25 : BitVec 32 := Scalar.remsi v24 c16_i32_20
  let c512_i32_59 : BitVec 32 := 512#32
  let v77 : BitVec 32 := Scalar.muli v25 c512_i32_59
  let c256_i32_60 : BitVec 32 := 256#32
  let v78 : BitVec 32 := Scalar.addi v77 c256_i32_60
  let v79 : Index := Scalar.indexCast v78
  let c0_61 : Index := 0#32
  ![v79.toNat, 0]
def k0_off6 (d0 : Dev nD) (c0_i32_62 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v81 : BitVec 32 := Scalar.subi v2 c0_i32_62
  let c1_i32_63 : BitVec 32 := 1#32
  let v82 : BitVec 32 := Scalar.subi v81 c1_i32_63
  let c16_i32_64 : BitVec 32 := 16#32
  let v83 : BitVec 32 := Scalar.addi v82 c16_i32_64
  let c16_i32_65 : BitVec 32 := 16#32
  let v84 : BitVec 32 := Scalar.remsi v83 c16_i32_65
  let c0_i32_73 : BitVec 32 := 0#32
  let c0_i32_74 : BitVec 32 := 0#32
  ![v84.toNat, 0, 0]
def k0_off7 (d0 : Dev nD) (c0_i32_66 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v85 : BitVec 32 := Scalar.addi v2 c0_i32_66
  let c1_i32_67 : BitVec 32 := 1#32
  let v86 : BitVec 32 := Scalar.addi v85 c1_i32_67
  let c16_i32_68 : BitVec 32 := 16#32
  let v87 : BitVec 32 := Scalar.remsi v86 c16_i32_68
  let c256_i32_81 : BitVec 32 := 256#32
  let c0_i32_82 : BitVec 32 := 0#32
  ![v87.toNat, 256, 0]
def k0_dev5 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_106 : BitVec 32 := 1#32
  let v121 : BitVec 32 := Scalar.muli v7 c1_i32_106
  let v122 : BitVec 32 := Scalar.addi c0_i32_107 v121
  v122.toNat
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_114 : BitVec 32 := 1#32
  let v131 : BitVec 32 := Scalar.muli v5 c1_i32_114
  let v132 : BitVec 32 := Scalar.addi c0_i32_115 v131
  v132.toNat
def k0_dev7 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_193 : BitVec 32 := 1#32
  let v216 : BitVec 32 := Scalar.muli v7 c1_i32_193
  let v217 : BitVec 32 := Scalar.addi c0_i32_194 v216
  v217.toNat
def k0_dev8 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_201 : BitVec 32 := 1#32
  let v226 : BitVec 32 := Scalar.muli v5 c1_i32_201
  let v227 : BitVec 32 := Scalar.addi c0_i32_202 v226
  v227.toNat
def k0_dev9 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_279 : BitVec 32 := 1#32
  let v311 : BitVec 32 := Scalar.muli v7 c1_i32_279
  let v312 : BitVec 32 := Scalar.addi c0_i32_280 v311
  v312.toNat
def k0_dev10 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_287 : BitVec 32 := 1#32
  let v321 : BitVec 32 := Scalar.muli v5 c1_i32_287
  let v322 : BitVec 32 := Scalar.addi c0_i32_288 v321
  v322.toNat
def k0_dev11 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_365 : BitVec 32 := 1#32
  let v406 : BitVec 32 := Scalar.muli v7 c1_i32_365
  let v407 : BitVec 32 := Scalar.addi c0_i32_366 v406
  v407.toNat
def k0_dev12 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_373 : BitVec 32 := 1#32
  let v416 : BitVec 32 := Scalar.muli v5 c1_i32_373
  let v417 : BitVec 32 := Scalar.addi c0_i32_374 v416
  v417.toNat
def k0_dev13 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_451 : BitVec 32 := 1#32
  let v501 : BitVec 32 := Scalar.muli v7 c1_i32_451
  let v502 : BitVec 32 := Scalar.addi c0_i32_452 v501
  v502.toNat
def k0_dev14 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_459 : BitVec 32 := 1#32
  let v511 : BitVec 32 := Scalar.muli v5 c1_i32_459
  let v512 : BitVec 32 := Scalar.addi c0_i32_460 v511
  v512.toNat
def k0_dev15 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_537 : BitVec 32 := 1#32
  let v596 : BitVec 32 := Scalar.muli v7 c1_i32_537
  let v597 : BitVec 32 := Scalar.addi c0_i32_538 v596
  v597.toNat
def k0_dev16 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_545 : BitVec 32 := 1#32
  let v606 : BitVec 32 := Scalar.muli v5 c1_i32_545
  let v607 : BitVec 32 := Scalar.addi c0_i32_546 v606
  v607.toNat
def k0_dev17 (d0 : Dev nD) : Nat :=
  let c0_i32_624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_623 : BitVec 32 := 1#32
  let v691 : BitVec 32 := Scalar.muli v7 c1_i32_623
  let v692 : BitVec 32 := Scalar.addi c0_i32_624 v691
  v692.toNat
def k0_dev18 (d0 : Dev nD) : Nat :=
  let c0_i32_632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_631 : BitVec 32 := 1#32
  let v701 : BitVec 32 := Scalar.muli v5 c1_i32_631
  let v702 : BitVec 32 := Scalar.addi c0_i32_632 v701
  v702.toNat
def k0_dev19 (d0 : Dev nD) : Nat :=
  let c0_i32_710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_709 : BitVec 32 := 1#32
  let v786 : BitVec 32 := Scalar.muli v7 c1_i32_709
  let v787 : BitVec 32 := Scalar.addi c0_i32_710 v786
  v787.toNat
def k0_dev20 (d0 : Dev nD) : Nat :=
  let c0_i32_718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_717 : BitVec 32 := 1#32
  let v796 : BitVec 32 := Scalar.muli v5 c1_i32_717
  let v797 : BitVec 32 := Scalar.addi c0_i32_718 v796
  v797.toNat
def k0_dev21 (d0 : Dev nD) : Nat :=
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_795 : BitVec 32 := 1#32
  let v881 : BitVec 32 := Scalar.muli v7 c1_i32_795
  let v882 : BitVec 32 := Scalar.addi c0_i32_796 v881
  v882.toNat
def k0_dev22 (d0 : Dev nD) : Nat :=
  let c0_i32_804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_803 : BitVec 32 := 1#32
  let v891 : BitVec 32 := Scalar.muli v5 c1_i32_803
  let v892 : BitVec 32 := Scalar.addi c0_i32_804 v891
  v892.toNat
def k0_dev23 (d0 : Dev nD) : Nat :=
  let c0_i32_882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_881 : BitVec 32 := 1#32
  let v976 : BitVec 32 := Scalar.muli v7 c1_i32_881
  let v977 : BitVec 32 := Scalar.addi c0_i32_882 v976
  v977.toNat
def k0_dev24 (d0 : Dev nD) : Nat :=
  let c0_i32_890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_889 : BitVec 32 := 1#32
  let v986 : BitVec 32 := Scalar.muli v5 c1_i32_889
  let v987 : BitVec 32 := Scalar.addi c0_i32_890 v986
  v987.toNat
def k0_dev25 (d0 : Dev nD) : Nat :=
  let c0_i32_968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_967 : BitVec 32 := 1#32
  let v1071 : BitVec 32 := Scalar.muli v7 c1_i32_967
  let v1072 : BitVec 32 := Scalar.addi c0_i32_968 v1071
  v1072.toNat
def k0_dev26 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_975 : BitVec 32 := 1#32
  let v1081 : BitVec 32 := Scalar.muli v5 c1_i32_975
  let v1082 : BitVec 32 := Scalar.addi c0_i32_976 v1081
  v1082.toNat
def k0_dev27 (d0 : Dev nD) : Nat :=
  let c0_i32_1054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1053 : BitVec 32 := 1#32
  let v1166 : BitVec 32 := Scalar.muli v7 c1_i32_1053
  let v1167 : BitVec 32 := Scalar.addi c0_i32_1054 v1166
  v1167.toNat
def k0_dev28 (d0 : Dev nD) : Nat :=
  let c0_i32_1062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1061 : BitVec 32 := 1#32
  let v1176 : BitVec 32 := Scalar.muli v5 c1_i32_1061
  let v1177 : BitVec 32 := Scalar.addi c0_i32_1062 v1176
  v1177.toNat
def k0_dev29 (d0 : Dev nD) : Nat :=
  let c0_i32_1140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1139 : BitVec 32 := 1#32
  let v1261 : BitVec 32 := Scalar.muli v7 c1_i32_1139
  let v1262 : BitVec 32 := Scalar.addi c0_i32_1140 v1261
  v1262.toNat
def k0_dev30 (d0 : Dev nD) : Nat :=
  let c0_i32_1148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1147 : BitVec 32 := 1#32
  let v1271 : BitVec 32 := Scalar.muli v5 c1_i32_1147
  let v1272 : BitVec 32 := Scalar.addi c0_i32_1148 v1271
  v1272.toNat
def k0_dev31 (d0 : Dev nD) : Nat :=
  let c0_i32_1226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1225 : BitVec 32 := 1#32
  let v1356 : BitVec 32 := Scalar.muli v7 c1_i32_1225
  let v1357 : BitVec 32 := Scalar.addi c0_i32_1226 v1356
  v1357.toNat
def k0_dev32 (d0 : Dev nD) : Nat :=
  let c0_i32_1234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1233 : BitVec 32 := 1#32
  let v1366 : BitVec 32 := Scalar.muli v5 c1_i32_1233
  let v1367 : BitVec 32 := Scalar.addi c0_i32_1234 v1366
  v1367.toNat
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1305 : BitVec 32 := 1#32
  let v1446 : BitVec 32 := Scalar.addi v2 c1_i32_1305
  let c16_i32_1306 : BitVec 32 := 16#32
  let v1447 : BitVec 32 := Scalar.remsi v1446 c16_i32_1306
  let c0_i32_1311 : BitVec 32 := 0#32
  let c0_i32_1312 : BitVec 32 := 0#32
  ![v1447.toNat, 0, 0]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1307 : BitVec 32 := 1#32
  let v1448 : BitVec 32 := Scalar.subi v2 c1_i32_1307
  let c16_i32_1308 : BitVec 32 := 16#32
  let v1449 : BitVec 32 := Scalar.addi v1448 c16_i32_1308
  let c16_i32_1309 : BitVec 32 := 16#32
  let v1450 : BitVec 32 := Scalar.remsi v1449 c16_i32_1309
  let c256_i32_1314 : BitVec 32 := 256#32
  let c0_i32_1315 : BitVec 32 := 0#32
  ![v1450.toNat, 256, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1305 : BitVec 32 := 1#32
  let v1446 : BitVec 32 := Scalar.addi v2 c1_i32_1305
  let c16_i32_1306 : BitVec 32 := 16#32
  let v1447 : BitVec 32 := Scalar.remsi v1446 c16_i32_1306
  let c512_i32_1325 : BitVec 32 := 512#32
  let v1469 : BitVec 32 := Scalar.muli v1447 c512_i32_1325
  let v1470 : Index := Scalar.indexCast v1469
  let c0_1326 : Index := 0#32
  ![v1470.toNat, 0]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1307 : BitVec 32 := 1#32
  let v1448 : BitVec 32 := Scalar.subi v2 c1_i32_1307
  let c16_i32_1308 : BitVec 32 := 16#32
  let v1449 : BitVec 32 := Scalar.addi v1448 c16_i32_1308
  let c16_i32_1309 : BitVec 32 := 16#32
  let v1450 : BitVec 32 := Scalar.remsi v1449 c16_i32_1309
  let c512_i32_1336 : BitVec 32 := 512#32
  let v1482 : BitVec 32 := Scalar.muli v1450 c512_i32_1336
  let c256_i32_1337 : BitVec 32 := 256#32
  let v1483 : BitVec 32 := Scalar.addi v1482 c256_i32_1337
  let v1484 : Index := Scalar.indexCast v1483
  let c0_1338 : Index := 0#32
  ![v1484.toNat, 0]
abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Program.lean ====
/-
# The kernel body as a prologue, fifteen hops and an epilogue

The printed body is one long sequence of memory operations, cut into parts at places that mean nothing to the
algorithm. Here the same sequence is written the way the algorithm reads: a prologue (the two barrier signals, the
barrier wait, the copy of the device's own block into the gather buffer), fifteen hops that differ only in their
offsets and semaphores, and an epilogue that multiplies the last two pieces. Each piece of program takes what runs after
it as its last argument, so that the whole body is one chain of operations.
-/
module

public import proofs.«01_k».proof.Proof.Gen.KernelIdeal
public import proofs.«01_k».proof.Proof.Gen.KernelIdeal.Skeleton
public import Idealize.ShloMosaic.Lib.Pipeline.Regions

@[expose] public section

noncomputable section

namespace Cert.GatherMatmul

open Cert.KernelIdeal Cert.KernelIdeal.Gen

open Idealize.ShloMosaic
open Idealize.ShloMosaic.TcCoe
open Idealize.SL Idealize.SL.Sem

variable {F : FTy → Type} [FloatOps F]

/-! ## The buffers the body works on -/

/-- This device's rows of `x`, in HBM. -/
abbrev xM : Memref sig .tc .hbm S512x8192 .f32 := Memref.whole main_arg0
/-- This device's columns of `w`, staged on chip. -/
abbrev wM : Memref sig .tc .vmem S8192x256 .f32 := Memref.whole cc0_stg0_0
/-- The result, staged on chip. -/
abbrev oM : Memref sig .tc .vmem S8192x256 .f32 := Memref.whole cc0_stg1_0
/-- The gather buffer: one slot of 512 rows per device. -/
abbrev gM : Memref sig .tc .hbm S16x512x8192 .f32 := Memref.whole main_v1_1
/-- The buffer a piece is copied into before it is multiplied: one for each direction. -/
abbrev stM (d : Bool) : Memref sig .tc .vmem S256x8192 .f32 :=
  match d with | true => Memref.whole cc0_scratch0 | false => Memref.whole cc0_scratch1

/-- A piece of the gather buffer: 256 rows of one slot. -/
abbrev half (o : Fin 3 → ℕ) (ho : ∀ a, o a + S1x256x8192.size a ≤ S16x512x8192.size a) :
    Memref sig .tc .hbm S256x8192 .f32 :=
  (gM.slice (Rect.unit (s := S16x512x8192) o S1x256x8192.size ho) (fun _ => rfl)).squeeze S256x8192
    squeezes_S1x256x8192_S256x8192

theorem half_wordExact (o : Fin 3 → ℕ) (ho : ∀ a, o a + S1x256x8192.size a ≤ S16x512x8192.size a) :
    (half o ho).view.WordExact := (View.wordExact_bits rfl).reshape _ _

/-- One slot of the gather buffer: 512 rows. -/
abbrev slotM (o : Fin 3 → ℕ) (ho : ∀ a, o a + S1x512x8192.size a ≤ S16x512x8192.size a) :
    Memref sig .tc .hbm S512x8192 .f32 :=
  (gM.slice (Rect.unit (s := S16x512x8192) o S1x512x8192.size ho) (fun _ => rfl)).squeeze S512x8192
    squeezes_S1x512x8192_S512x8192

theorem slotM_wordExact (o : Fin 3 → ℕ) (ho : ∀ a, o a + S1x512x8192.size a ≤ S16x512x8192.size a) :
    (slotM o ho).view.WordExact := (View.wordExact_bits rfl).reshape _ _

/-- The DMA semaphore number `q` of the kernel's own sixty-three: four arrays of fifteen, then the three of the copies
    that stay on the device. -/
abbrev own (q : Fin 63) : DmaSem sig := ⟨2 + q.val, by have := q.isLt; show 2 + q.val < 65; omega⟩

/-- A transfer semaphore of hop `h` in direction `d`: the one raised at the sender (`r` false) or the one raised at the
    receiver (`r` true). -/
abbrev xferS (d r : Bool) (h : Fin 15) : DmaSem sig :=
  own ⟨(if d then 0 else 30) + (if r then 15 else 0) + h.val, by have := h.isLt; split <;> split <;> omega⟩
/-- The semaphore a transfer of hop `h` in direction `d` raises at its sender. -/
abbrev sendS (d : Bool) (h : Fin 15) : DmaSem sig := xferS d false h
/-- The semaphore it raises at its receiver. -/
abbrev recvS (d : Bool) (h : Fin 15) : DmaSem sig := xferS d true h
/-- The semaphore of the copies that stay on the device: `0` the own block's, `1` and `2` the two directions'. -/
abbrev copyS (k : Fin 3) : DmaSem sig := own ⟨60 + k.val, by have := k.isLt; omega⟩
/-- The copy semaphore of direction `d`. -/
abbrev stageS (d : Bool) : DmaSem sig := copyS (if d then 1 else 2)

/-- The barrier semaphore. -/
abbrev barS : Sem sig := (SemArray.scalar (sig.barrier 0 rfl) : Sems sig S_).sem

abbrev Body (F : FTy → Type) [FloatOps F] : Type 1 := Prog (TpuEff nD τ sig (Elt F) Λ₀ .tc) PUnit

theorem stM_whole (d : Bool) : (stM d).IsWhole := by cases d <;> exact Memref.isWhole_whole _

/-! ## The steps of a hop -/

/-- Start the transfer of piece `p` to device `n`. -/
def sendP (d : Bool) (h : Fin 15) (p : Memref sig .tc .hbm S256x8192 .f32) (hp : p.view.WordExact) (n : Dev nD)
    (k : Body F) : Body F :=
  .op (.enqueueDma p (.remote (Dev.tc n) p (.dma (sendS d h))) (.dma (recvS d h)) hp hp ⟨⟨rfl, Or.inl rfl⟩, trivial⟩)
    fun _ => k

/-- Start the copy of piece `p` on chip. -/
def stageP (d : Bool) (p : Memref sig .tc .hbm S256x8192 .f32) (hp : p.view.WordExact) (k : Body F) : Body F :=
  match d with
  | true => .op (.enqueueDma p (.here (stM true)) (.dma (stageS true)) hp (stM_whole true).wordExact ⟨Or.inl rfl, trivial⟩) fun _ => k
  | false => .op (.enqueueDma p (.here (stM false)) (.dma (stageS false)) hp (stM_whole false).wordExact ⟨Or.inl rfl, trivial⟩) fun _ => k

/-- Wait for that copy, multiply the piece by the device's columns of `w`, and store the 256 rows of the result at row
    offset `o`. -/
def multP (d : Bool) (p : Memref sig .tc .hbm S256x8192 .f32) (hp : p.view.WordExact) (o : Fin 2 → ℕ)
    (ho : ∀ a, o a + S256x256.size a ≤ S8192x256.size a) (k : Body F) : Body F :=
  .op (.waitDma2 (stageS d) p (stM d) hp (stM_whole d).wordExact) fun _ =>
  .op (.load (stM d) (Rect.unit (s := S256x8192) ![0, 0] S256x8192.size inb_S256x8192_S256x8192_0_0).toLoadRect
    (View.loadsAt_vmem h_S256x8192)) fun v =>
  .op (.load wM (Rect.unit (s := S8192x256) ![0, 0] S8192x256.size inb_S8192x256_S8192x256_0_0).toLoadRect
    (View.loadsAt_vmem h_S8192x256)) fun w =>
  .op (.load oM (Rect.unit (s := S8192x256) o S256x256.size ho).toLoadRect (View.loadsAt_vmem h_S256x256)) fun _ =>
  .op (.store oM (Rect.unit (s := S8192x256) o S256x256.size ho) (k0_pay1 v w) Finset.univ
    (View.stores_vmem_bits_univ h_S256x256 rfl) (.inl rfl)) fun _ => k

/-- Wait for a whole piece on semaphore `q`. -/
def waitP (q : DmaSem sig) (p : Memref sig .tc .hbm S256x8192 .f32) (hp : p.view.WordExact) (k : Body F) : Body F :=
  .op (.waitDma2 q p p hp hp) fun _ => k

/-- One hop: send on both pieces that arrived last, multiply them, and wait for the next two and for the two sends. -/
def hopP (h : Fin 15) (R L : Dev nD) (a b a' b' : Memref sig .tc .hbm S256x8192 .f32) (ha : a.view.WordExact)
    (hb : b.view.WordExact) (ha' : a'.view.WordExact) (hb' : b'.view.WordExact) (oa ob : Fin 2 → ℕ)
    (hoa : ∀ i, oa i + S256x256.size i ≤ S8192x256.size i) (hob : ∀ i, ob i + S256x256.size i ≤ S8192x256.size i)
    (k : Body F) : Body F :=
  sendP true h a ha R <| sendP false h b hb L <| stageP true a ha <| stageP false b hb <|
  multP true a ha oa hoa <| multP false b hb ob hob <|
  waitP (recvS true h) a' ha' <| waitP (recvS false h) b' hb' <|
  waitP (sendS true h) a ha <| waitP (sendS false h) b hb k

/-- The hop as device `c` runs it, sending to `R` and `L`. -/
def hopAt (c : Dev nD) (h : Fin 15) (R L : Dev nD) (k : Body F) : Body F :=
  hopP h R L (half (k0_off2 c (BitVec.ofNat 32 h.val)) (k0_off2_inb c h)) (half (k0_off3 c (BitVec.ofNat 32 h.val)) (k0_off3_inb c h))
    (half (k0_off6 c (BitVec.ofNat 32 h.val)) (k0_off6_inb c h)) (half (k0_off7 c (BitVec.ofNat 32 h.val)) (k0_off7_inb c h))
    (half_wordExact _ _) (half_wordExact _ _) (half_wordExact _ _) (half_wordExact _ _)
    (k0_off4 c (BitVec.ofNat 32 h.val)) (k0_off5 c (BitVec.ofNat 32 h.val)) (k0_off4_inb c h) (k0_off5_inb c h) k

/-- The prologue: tell both neighbours, wait for both, and copy the own block into its slot. -/
def startP (L R : Dev nD) (p : Memref sig .tc .hbm S512x8192 .f32) (hp : p.view.WordExact) (k : Body F) : Body F :=
  .op (.semSignal (L, .tc) barS (1#32).toInt) fun _ =>
  .op (.semSignal (R, .tc) barS (1#32).toInt) fun _ =>
  .op (.semWait barS (2#32).toInt) fun _ =>
  .op (.enqueueDma xM (.here p) (.dma (copyS 0)) (Memref.isWhole_whole main_arg0).wordExact hp ⟨Or.inl rfl, trivial⟩) fun _ =>
  .op (.waitDma2 (copyS 0) xM p (Memref.isWhole_whole main_arg0).wordExact hp) fun _ => k

/-- The epilogue: multiply the two pieces of the last hop. -/
def lastP (a b : Memref sig .tc .hbm S256x8192 .f32) (ha : a.view.WordExact)
    (hb : b.view.WordExact) (oa ob : Fin 2 → ℕ)
    (hoa : ∀ i, oa i + S256x256.size i ≤ S8192x256.size i) (hob : ∀ i, ob i + S256x256.size i ≤ S8192x256.size i)
    (k : Body F) : Body F :=
  stageP true a ha <| stageP false b hb <| multP true a ha oa hoa <| multP false b hb ob hob k

/-- The body as the pipeline calls it. -/
abbrev theBody : Body F :=
  cc0_body xM (Memref.isWhole_whole _) wM (Memref.isWhole_whole _) oM (Memref.isWhole_whole _) gM (Memref.isWhole_whole _)
    (Memref.whole cc0_scratch0) (Memref.isWhole_whole _) (Memref.whole cc0_scratch1) (Memref.isWhole_whole _)
    cc0_scratch2 cc0_scratch3 cc0_scratch4 cc0_scratch5 cc0_scratch6

set_option maxRecDepth 65536 in
/-- The printed body is the prologue, the fifteen hops and the epilogue. -/
theorem body_eq : theBody (F := F) = .op .deviceId fun c =>
    startP ⟨k0_dev1 c, k0_dev1_lt c⟩ ⟨k0_dev2 c, k0_dev2_lt c⟩ (slotM (k0_off1 c) (k0_off1_inb c)) (slotM_wordExact _ _) <|
    hopAt c 0 ⟨k0_dev3 c, k0_dev3_lt c⟩ ⟨k0_dev4 c, k0_dev4_lt c⟩ <|
    hopAt c 1 ⟨k0_dev5 c, k0_dev5_lt c⟩ ⟨k0_dev6 c, k0_dev6_lt c⟩ <|
    hopAt c 2 ⟨k0_dev7 c, k0_dev7_lt c⟩ ⟨k0_dev8 c, k0_dev8_lt c⟩ <|
    hopAt c 3 ⟨k0_dev9 c, k0_dev9_lt c⟩ ⟨k0_dev10 c, k0_dev10_lt c⟩ <|
    hopAt c 4 ⟨k0_dev11 c, k0_dev11_lt c⟩ ⟨k0_dev12 c, k0_dev12_lt c⟩ <|
    hopAt c 5 ⟨k0_dev13 c, k0_dev13_lt c⟩ ⟨k0_dev14 c, k0_dev14_lt c⟩ <|
    hopAt c 6 ⟨k0_dev15 c, k0_dev15_lt c⟩ ⟨k0_dev16 c, k0_dev16_lt c⟩ <|
    hopAt c 7 ⟨k0_dev17 c, k0_dev17_lt c⟩ ⟨k0_dev18 c, k0_dev18_lt c⟩ <|
    hopAt c 8 ⟨k0_dev19 c, k0_dev19_lt c⟩ ⟨k0_dev20 c, k0_dev20_lt c⟩ <|
    hopAt c 9 ⟨k0_dev21 c, k0_dev21_lt c⟩ ⟨k0_dev22 c, k0_dev22_lt c⟩ <|
    hopAt c 10 ⟨k0_dev23 c, k0_dev23_lt c⟩ ⟨k0_dev24 c, k0_dev24_lt c⟩ <|
    hopAt c 11 ⟨k0_dev25 c, k0_dev25_lt c⟩ ⟨k0_dev26 c, k0_dev26_lt c⟩ <|
    hopAt c 12 ⟨k0_dev27 c, k0_dev27_lt c⟩ ⟨k0_dev28 c, k0_dev28_lt c⟩ <|
    hopAt c 13 ⟨k0_dev29 c, k0_dev29_lt c⟩ ⟨k0_dev30 c, k0_dev30_lt c⟩ <|
    hopAt c 14 ⟨k0_dev31 c, k0_dev31_lt c⟩ ⟨k0_dev32 c, k0_dev32_lt c⟩ <|
    lastP (half (k0_off8 c) (k0_off8_inb c)) (half (k0_off9 c) (k0_off9_inb c)) (half_wordExact _ _) (half_wordExact _ _)
      (k0_off10 c) (k0_off11 c) (k0_off10_inb c) (k0_off11_inb c) (.ret ⟨⟩) := by
  chain_rfl

end Cert.GatherMatmul

end
-- ==== Proof.Pieces.lean ====
/-
# The pieces of the gather buffer

The gather buffer holds one slot of 512 rows for each of the sixteen devices. The upper 256 rows of a slot travel
clockwise round the ring of devices, the lower 256 counter-clockwise. A direction is a `Bool`: `true` is clockwise and
the upper rows, `false` counter-clockwise and the lower rows, so that each fact is stated once for both.

At hop `h` a device holds, in each direction, the piece of the device `h` steps back (`slot d c h`); it sends it to the
next device of that direction (`onward d c`), where it is the piece of hop `h + 1`.
-/
module

public import proofs.«01_k».proof.Proof.Program
public import Idealize.ShloMosaic.Lib.Pipeline.Value
public import Idealize.ShloMosaic.Lib.Pipeline.ValueKit.Geometry
public import Idealize.ShloMosaic.Lib.Pointwise.Reshape
public import Idealize.ShloMosaic.Lib.ViewIndex

@[expose] public section

noncomputable section

namespace Cert.GatherMatmul

open Cert.KernelIdeal Cert.KernelIdeal.Gen

open Idealize.ShloMosaic
open Idealize.ShloMosaic.TcCoe
open Idealize.SL Idealize.SL.Sem

variable {F : FTy → Type} [FloatOps F]

/-! ## The ring -/

/-- The device that `c` sends to in direction `d`. -/
def onward (d : Bool) (c : Dev nD) : Dev nD := ⟨(c.val + if d then 1 else 15) % 16, Nat.mod_lt _ (by decide)⟩
/-- The device whose piece `c` holds at hop `h` in direction `d`: the one `h` steps back. -/
def slot (d : Bool) (c : Dev nD) (h : ℕ) : Dev nD :=
  ⟨(c.val + (if d then 15 else 1) * h) % 16, Nat.mod_lt _ (by decide)⟩

theorem onward_val (d : Bool) (c : Dev nD) : (onward d c).val = (c.val + if d then 1 else 15) % 16 := rfl
theorem slot_val (d : Bool) (c : Dev nD) (h : ℕ) : (slot d c h).val = (c.val + (if d then 15 else 1) * h) % 16 := rfl
theorem dev_lt (c : Dev nD) : c.val < 16 := c.isLt

theorem onward_back (d : Bool) (c : Dev nD) : onward d (onward (!d) c) = c := by
  have := dev_lt c
  refine Fin.ext ?_
  cases d <;> simp only [onward_val, Bool.not_true, Bool.not_false] <;> simp <;> omega
theorem slot_zero (d : Bool) (c : Dev nD) : slot d c 0 = c := by
  have := dev_lt c
  refine Fin.ext ?_
  rw [slot_val]; simp
/-- What arrives is the piece the sender held. -/
theorem slot_onward (d : Bool) (c : Dev nD) (h : ℕ) : slot d (onward d c) (h + 1) = slot d c h := by
  have := dev_lt c
  refine Fin.ext ?_
  cases d <;> simp only [onward_val, slot_val] <;> simp <;> omega
/-- A device one step back holds, at the same hop, what the device holds one hop later. -/
theorem slot_back (d : Bool) (c : Dev nD) (h : ℕ) : slot d (onward (!d) c) h = slot d c (h + 1) := by
  rw [← slot_onward d (onward (!d) c) h, onward_back]

/-- Walking round the ring. -/
def ring (d : Bool) : Dev nD ≃ Dev nD where
  toFun := onward d
  invFun := onward (!d)
  left_inv c := by have := onward_back (!d) c; rwa [Bool.not_not] at this
  right_inv c := onward_back d c

/-- Every device is some number of steps back, once. -/
def around (d : Bool) (c : Dev nD) : Fin 16 ≃ Dev nD :=
  Equiv.ofBijective (fun j => slot d c j.val) (by
    have hc := dev_lt c
    have hinj : Function.Injective (fun j : Fin 16 => slot d c j.val) := by
      intro i j h
      have h' : (slot d c i.val).val = (slot d c j.val).val := congrArg Fin.val h
      have hi := i.isLt; have hj := j.isLt
      refine Fin.ext ?_
      cases d <;> simp only [slot_val] at h' <;> simp at h' <;> omega
    exact ⟨hinj, (Finite.injective_iff_surjective).1 hinj⟩)

/-! ## Where a piece lies -/

/-- Dropping a leading axis of extent one keeps the other two coordinates. -/
theorem drop_lead {n k : ℕ} (h : (⟨2, ![n, k]⟩ : Shape).numel = (⟨3, ![1, n, k]⟩ : Shape).numel)
    (y : (⟨2, ![n, k]⟩ : Shape).Idx) (z : (⟨3, ![1, n, k]⟩ : Shape).Idx)
    (h1 : (z 1).val = (y 0).val) (h2 : (z 2).val = (y 1).val) : Shape.reshapeEquiv h y = z := by
  refine Shape.reshapeEquiv_eq_of_vals h y z _ _ (rowMajor_val3 z (n * k) k rfl rfl) (rowMajor_val2 y k rfl) ?_
  have h0 : (z 0).val < 1 := (z 0).isLt
  rw [show (z 0).val = 0 by omega, h1, h2, Nat.zero_mul, Nat.zero_add]

theorem half_emb (o : Fin 3 → ℕ) (ho : ∀ a, o a + S1x256x8192.size a ≤ S16x512x8192.size a) (y : S256x8192.Idx) :
    (((half o ho).view.emb y : S16x512x8192.Idx) 0).val = o 0 ∧ (((half o ho).view.emb y : S16x512x8192.Idx) 1).val = o 1 + (y 0).val
      ∧ (((half o ho).view.emb y : S16x512x8192.Idx) 2).val = o 2 + (y 1).val := by
  let z : S1x256x8192.Idx := Fin.cons ⟨0, by decide⟩ (Fin.cons (y 0) (Fin.cons (y 1) finZeroElim))
  have hz : Shape.reshapeEquiv (squeezes_S1x256x8192_S256x8192).numel_eq y = z :=
    drop_lead (n := 256) (k := 8192) _ y z rfl rfl
  have he : ((half o ho).view.emb y : S16x512x8192.Idx)
      = (((View.whole main_v1_1).slice (Rect.unit (s := S16x512x8192) o S1x256x8192.size ho)).emb z : S16x512x8192.Idx) := by
    rw [← hz]; rfl
  rw [he]
  refine ⟨?_, ?_, ?_⟩ <;>
    rw [ValueKit.view_emb_slice_whole_unit_val main_v1_1 o S1x256x8192.size ho z] <;> rfl

theorem mem_half (o : Fin 3 → ℕ) (ho : ∀ a, o a + S1x256x8192.size a ≤ S16x512x8192.size a) (h2 : o 2 = 0) (i : S16x512x8192.Idx) :
    i ∈ (half o ho).view.set ↔ (i 0).val = o 0 ∧ o 1 ≤ (i 1).val ∧ (i 1).val < o 1 + 256 := by
  have h : (half o ho).view.set = (Rect.unit (s := S16x512x8192) o S1x256x8192.size ho).set :=
    (View.set_reshape _ _).trans (View.set_slice_whole _ _)
  rw [h, Rect.mem_set_unit, Fin.forall_fin_succ, Fin.forall_fin_succ, Fin.forall_fin_one]
  have := (i 2).isLt
  constructor
  · rintro ⟨⟨a, b⟩, ⟨c, e⟩, -⟩
    have b' : (i 0).val < o 0 + 1 := b
    exact ⟨by omega, c, e⟩
  · rintro ⟨a, b, e⟩
    refine ⟨⟨a.ge, ?_⟩, ⟨b, e⟩, ⟨?_, ?_⟩⟩
    · show (i 0).val < o 0 + 1; omega
    · show o 2 ≤ (i 2).val; omega
    · show (i 2).val < o 2 + 8192; rw [h2, Nat.zero_add]; exact this

theorem slotM_emb (o : Fin 3 → ℕ) (ho : ∀ a, o a + S1x512x8192.size a ≤ S16x512x8192.size a) (y : S512x8192.Idx) :
    (((slotM o ho).view.emb y : S16x512x8192.Idx) 0).val = o 0 ∧ (((slotM o ho).view.emb y : S16x512x8192.Idx) 1).val = o 1 + (y 0).val
      ∧ (((slotM o ho).view.emb y : S16x512x8192.Idx) 2).val = o 2 + (y 1).val := by
  let z : S1x512x8192.Idx := Fin.cons ⟨0, by decide⟩ (Fin.cons (y 0) (Fin.cons (y 1) finZeroElim))
  have hz : Shape.reshapeEquiv (squeezes_S1x512x8192_S512x8192).numel_eq y = z :=
    drop_lead (n := 512) (k := 8192) _ y z rfl rfl
  have he : ((slotM o ho).view.emb y : S16x512x8192.Idx)
      = (((View.whole main_v1_1).slice (Rect.unit (s := S16x512x8192) o S1x512x8192.size ho)).emb z : S16x512x8192.Idx) := by
    rw [← hz]; rfl
  rw [he]
  refine ⟨?_, ?_, ?_⟩ <;>
    rw [ValueKit.view_emb_slice_whole_unit_val main_v1_1 o S1x512x8192.size ho z] <;> rfl

theorem mem_slotM (o : Fin 3 → ℕ) (ho : ∀ a, o a + S1x512x8192.size a ≤ S16x512x8192.size a) (h1 : o 1 = 0) (h2 : o 2 = 0) (i : S16x512x8192.Idx) :
    i ∈ (slotM o ho).view.set ↔ (i 0).val = o 0 := by
  have h : (slotM o ho).view.set = (Rect.unit (s := S16x512x8192) o S1x512x8192.size ho).set :=
    (View.set_reshape _ _).trans (View.set_slice_whole _ _)
  rw [h, Rect.mem_set_unit, Fin.forall_fin_succ, Fin.forall_fin_succ, Fin.forall_fin_one]
  have i1 := (i 1).isLt
  have i2 := (i 2).isLt
  constructor
  · rintro ⟨⟨a, b⟩, -, -⟩
    have b' : (i 0).val < o 0 + 1 := b
    omega
  · intro a
    refine ⟨⟨a.ge, ?_⟩, ⟨?_, ?_⟩, ⟨?_, ?_⟩⟩
    · show (i 0).val < o 0 + 1; omega
    · show o 1 ≤ (i 1).val; omega
    · show (i 1).val < o 1 + 512; rw [h1, Nat.zero_add]; exact i1
    · show o 2 ≤ (i 2).val; omega
    · show (i 2).val < o 2 + 8192; rw [h2, Nat.zero_add]; exact i2

/-! ## The pieces -/

/-- The first row of direction `d`'s half of a slot. -/
abbrev top (d : Bool) : ℕ := if d then 0 else 256

theorem pieceOff_inb (d : Bool) (s : Dev nD) : ∀ a, (![s.val, top d, 0] : Fin 3 → ℕ) a + S1x256x8192.size a ≤ S16x512x8192.size a := by
  have := dev_lt s
  refine Fin.forall_fin_succ.2 ⟨?_, Fin.forall_fin_succ.2 ⟨?_, Fin.forall_fin_one.2 ?_⟩⟩
  · show s.val + 1 ≤ 16; omega
  · show top d + 256 ≤ 512; unfold top; cases d <;> simp
  · show 0 + 8192 ≤ 8192; omega

/-- Direction `d`'s half of device `s`'s slot. -/
abbrev piece (d : Bool) (s : Dev nD) : Memref sig .tc .hbm S256x8192 .f32 := half ![s.val, top d, 0] (pieceOff_inb d s)
theorem piece_wordExact (d : Bool) (s : Dev nD) : (piece d s).view.WordExact := half_wordExact _ _

theorem ownOff_inb (c : Dev nD) : ∀ a, (![c.val, 0, 0] : Fin 3 → ℕ) a + S1x512x8192.size a ≤ S16x512x8192.size a := by
  have := dev_lt c
  refine Fin.forall_fin_succ.2 ⟨?_, Fin.forall_fin_succ.2 ⟨?_, Fin.forall_fin_one.2 ?_⟩⟩
  · show c.val + 1 ≤ 16; omega
  · show 0 + 512 ≤ 512; omega
  · show 0 + 8192 ≤ 8192; omega

/-- The slot of device `c`. -/
abbrev slab (c : Dev nD) : Memref sig .tc .hbm S512x8192 .f32 := slotM ![c.val, 0, 0] (ownOff_inb c)
theorem slab_wordExact (c : Dev nD) : (slab c).view.WordExact := slotM_wordExact _ _

theorem mem_piece (d : Bool) (s : Dev nD) (i : S16x512x8192.Idx) :
    i ∈ (piece d s).view.set ↔ (i 0).val = s.val ∧ (d = true ↔ (i 1).val < 256) := by
  have h1 : (i 1).val < 512 := (i 1).isLt
  rw [mem_half ![s.val, top d, 0] _ rfl i]
  show (i 0).val = s.val ∧ top d ≤ (i 1).val ∧ (i 1).val < top d + 256 ↔ _
  unfold top
  cases d <;> simp <;> omega

theorem mem_slab (c : Dev nD) (i : S16x512x8192.Idx) : i ∈ (slab c).view.set ↔ (i 0).val = c.val :=
  mem_slotM ![c.val, 0, 0] _ rfl rfl i

theorem disjoint_piece {d d' : Bool} {s s' : Dev nD} (h : (d, s) ≠ (d', s')) : Disjoint (piece d s).view.set (piece d' s').view.set := by
  rw [Finset.disjoint_left]
  intro i hi hi'
  rw [mem_piece] at hi hi'
  apply h
  have hs : s = s' := Fin.ext (hi.1.symm.trans hi'.1)
  have hd : d = d' := Bool.eq_iff_iff.2 (hi.2.trans hi'.2.symm)
  rw [hs, hd]

theorem slab_set (c : Dev nD) : ((slab c).view.set : Finset S16x512x8192.Idx) = (piece true c).view.set ∪ (piece false c).view.set := by
  ext i
  rw [Finset.mem_union, mem_slab, mem_piece, mem_piece]
  by_cases h : (i 1).val < 256 <;> simp [h]

/-- The pieces are the whole buffer. -/
theorem pieces_cover : (Finset.univ : Finset (Bool × Dev nD)).biUnion (fun p => (show Finset S16x512x8192.Idx from (piece p.1 p.2).view.set)) = Finset.univ := by
  ext i
  simp only [Finset.mem_biUnion, Finset.mem_univ, true_and, iff_true]
  refine ⟨(decide ((i 1).val < 256), ⟨(i 0).val, (i 0).isLt⟩), ?_⟩
  rw [mem_piece]
  exact ⟨rfl, by simp⟩

/-! ## The offsets and devices the program names -/

theorem half_congr {o o' : Fin 3 → ℕ} (e : o = o') (ho : ∀ a, o a + S1x256x8192.size a ≤ S16x512x8192.size a)
    (ho' : ∀ a, o' a + S1x256x8192.size a ≤ S16x512x8192.size a) : half o ho = half o' ho' := by subst e; rfl

theorem slotM_congr {o o' : Fin 3 → ℕ} (e : o = o') (ho : ∀ a, o a + S1x512x8192.size a ≤ S16x512x8192.size a)
    (ho' : ∀ a, o' a + S1x512x8192.size a ≤ S16x512x8192.size a) : slotM o ho = slotM o' ho' := by subst e; rfl

/-- The rows of the result that device `s`'s piece makes. -/
abbrev rowOff (d : Bool) (s : Dev nD) : Fin 2 → ℕ := ![512 * s.val + top d, 0]
theorem rowOff_inb (d : Bool) (s : Dev nD) : ∀ a, rowOff d s a + S256x256.size a ≤ S8192x256.size a := by
  have := dev_lt s
  refine Fin.forall_fin_succ.2 ⟨?_, Fin.forall_fin_one.2 ?_⟩
  · show 512 * s.val + top d + 256 ≤ 8192; unfold top; cases d <;> simp <;> omega
  · show 0 + 256 ≤ 256; omega

theorem lead_eq {a b x y : ℕ} (h : a = b) (h' : x = y) : (![a, x, 0] : Fin 3 → ℕ) = ![b, y, 0] := by rw [h, h']
theorem row_eq {a b : ℕ} (h : a = b) : (![a, 0] : Fin 2 → ℕ) = ![b, 0] := by rw [h]

variable (c : Dev nD) (h : Fin 15)

theorem off1_eq : k0_off1 c = ![c.val, 0, 0] := k0_off1_eq c
theorem off2_eq : k0_off2 c (BitVec.ofNat 32 h.val) = ![(slot true c h.val).val, top true, 0] :=
  (k0_off2_eq c h).trans (lead_eq (by have := dev_lt c; have := h.isLt; rw [slot_val]; simp; omega) rfl)
theorem off3_eq : k0_off3 c (BitVec.ofNat 32 h.val) = ![(slot false c h.val).val, top false, 0] :=
  (k0_off3_eq c h).trans (lead_eq (by have := dev_lt c; have := h.isLt; rw [slot_val]; simp) rfl)
theorem off4_eq : k0_off4 c (BitVec.ofNat 32 h.val) = rowOff true (slot true c h.val) :=
  (k0_off4_eq c h).trans (row_eq (by have := dev_lt c; have := h.isLt; rw [slot_val]; simp [top]; omega))
theorem off5_eq : k0_off5 c (BitVec.ofNat 32 h.val) = rowOff false (slot false c h.val) :=
  (k0_off5_eq c h).trans (row_eq (by have := dev_lt c; have := h.isLt; rw [slot_val]; simp))
theorem off6_eq : k0_off6 c (BitVec.ofNat 32 h.val) = ![(slot true c (h.val + 1)).val, top true, 0] :=
  (k0_off6_eq c h).trans (lead_eq (by have := dev_lt c; have := h.isLt; rw [slot_val]; simp; omega) rfl)
theorem off7_eq : k0_off7 c (BitVec.ofNat 32 h.val) = ![(slot false c (h.val + 1)).val, top false, 0] :=
  (k0_off7_eq c h).trans (lead_eq (by have := dev_lt c; have := h.isLt; rw [slot_val]; simp; omega) rfl)
theorem off8_eq : k0_off8 c = ![(slot true c 15).val, top true, 0] :=
  (k0_off8_eq c).trans (lead_eq (by have := dev_lt c; rw [slot_val]; simp; omega) rfl)
theorem off9_eq : k0_off9 c = ![(slot false c 15).val, top false, 0] :=
  (k0_off9_eq c).trans (lead_eq (by have := dev_lt c; rw [slot_val]; simp) rfl)
theorem off10_eq : k0_off10 c = rowOff true (slot true c 15) :=
  (k0_off10_eq c).trans (row_eq (by have := dev_lt c; rw [slot_val]; simp [top]; omega))
theorem off11_eq : k0_off11 c = rowOff false (slot false c 15) :=
  (k0_off11_eq c).trans (row_eq (by have := dev_lt c; rw [slot_val]; simp))

/-! ## The body over the pieces -/

/-- A hop over the pieces it moves. -/
def hopN (k : Body F) : Body F :=
  hopP h (onward true c) (onward false c) (piece true (slot true c h.val)) (piece false (slot false c h.val))
    (piece true (slot true c (h.val + 1))) (piece false (slot false c (h.val + 1)))
    (piece_wordExact _ _) (piece_wordExact _ _) (piece_wordExact _ _) (piece_wordExact _ _)
    (rowOff true (slot true c h.val)) (rowOff false (slot false c h.val)) (rowOff_inb _ _) (rowOff_inb _ _) k

theorem hopP_congr {R R' L L' : Dev nD} {a a2 b b2 a' a2' b' b2' : Memref sig .tc .hbm S256x8192 .f32} (ha : a.view.WordExact)
    (hb : b.view.WordExact) (ha' : a'.view.WordExact) (hb' : b'.view.WordExact) {oa oa2 ob ob2 : Fin 2 → ℕ}
    (hoa : ∀ i, oa i + S256x256.size i ≤ S8192x256.size i) (hob : ∀ i, ob i + S256x256.size i ≤ S8192x256.size i)
    (ha2 : a2.view.WordExact) (hb2 : b2.view.WordExact) (ha2' : a2'.view.WordExact) (hb2' : b2'.view.WordExact)
    (hoa2 : ∀ i, oa2 i + S256x256.size i ≤ S8192x256.size i) (hob2 : ∀ i, ob2 i + S256x256.size i ≤ S8192x256.size i)
    (k : Body F) (eR : R = R') (eL : L = L') (e1 : a = a2) (e2 : b = b2) (e3 : a' = a2') (e4 : b' = b2') (e5 : oa = oa2) (e6 : ob = ob2) :
    hopP h R L a b a' b' ha hb ha' hb' oa ob hoa hob k = hopP h R' L' a2 b2 a2' b2' ha2 hb2 ha2' hb2' oa2 ob2 hoa2 hob2 k := by
  subst eR eL e1 e2 e3 e4 e5 e6; rfl

theorem hopAt_eq (R L : Dev nD) (k : Body F) (hR : R.val = (c.val + 1) % 16) (hL : L.val = (c.val + 15) % 16) :
    hopAt c h R L k = hopN c h k :=
  hopP_congr h (half_wordExact _ _) (half_wordExact _ _) (half_wordExact _ _) (half_wordExact _ _) (k0_off4_inb c h) (k0_off5_inb c h)
    (piece_wordExact _ _) (piece_wordExact _ _) (piece_wordExact _ _) (piece_wordExact _ _) (rowOff_inb _ _) (rowOff_inb _ _) k
    (Fin.ext hR) (Fin.ext hL)
    (half_congr (off2_eq c h) _ _) (half_congr (off3_eq c h) _ _) (half_congr (off6_eq c h) _ _) (half_congr (off7_eq c h) _ _)
    (off4_eq c h) (off5_eq c h)

/-- The prologue over the device's own slot. -/
def startN (k : Body F) : Body F := startP (onward false c) (onward true c) (slab c) (slab_wordExact c) k

theorem startP_congr {L L' R R' : Dev nD} {p p' : Memref sig .tc .hbm S512x8192 .f32} (hp : p.view.WordExact) (hp' : p'.view.WordExact) (k : Body F)
    (eL : L = L') (eR : R = R') (e : p = p') : startP L R p hp k = startP L' R' p' hp' k := by subst eL eR e; rfl

/-- The epilogue over the last two pieces. -/
def lastN (k : Body F) : Body F :=
  lastP (piece true (slot true c 15)) (piece false (slot false c 15)) (piece_wordExact _ _) (piece_wordExact _ _)
    (rowOff true (slot true c 15)) (rowOff false (slot false c 15)) (rowOff_inb _ _) (rowOff_inb _ _) k

theorem lastP_congr {a a2 b b2 : Memref sig .tc .hbm S256x8192 .f32} (ha : a.view.WordExact)
    (hb : b.view.WordExact) {oa oa2 ob ob2 : Fin 2 → ℕ}
    (hoa : ∀ i, oa i + S256x256.size i ≤ S8192x256.size i) (hob : ∀ i, ob i + S256x256.size i ≤ S8192x256.size i)
    (ha2 : a2.view.WordExact) (hb2 : b2.view.WordExact)
    (hoa2 : ∀ i, oa2 i + S256x256.size i ≤ S8192x256.size i) (hob2 : ∀ i, ob2 i + S256x256.size i ≤ S8192x256.size i)
    (k : Body F) (e1 : a = a2) (e2 : b = b2) (e5 : oa = oa2) (e6 : ob = ob2) :
    lastP a b ha hb oa ob hoa hob k = lastP a2 b2 ha2 hb2 oa2 ob2 hoa2 hob2 k := by
  subst e1 e2 e5 e6; rfl

theorem dev1_eq : (⟨k0_dev1 c, k0_dev1_lt c⟩ : Dev nD) = onward false c := Fin.ext (k0_dev1_eq c)
theorem dev2_eq : (⟨k0_dev2 c, k0_dev2_lt c⟩ : Dev nD) = onward true c := Fin.ext (k0_dev2_eq c)

/-- The hops from hop `h` on, then `k`. -/
def hopsFrom (k : Body F) : (n : ℕ) → n ≤ 15 → Body F
  | 0, _ => k
  | n + 1, hn => hopN c ⟨14 - n, by omega⟩ (hopsFrom k n (by omega))

/-- The body, over pieces. -/
def bodyN : Body F := startN c (hopsFrom c (lastN c (.ret ⟨⟩)) 15 le_rfl)

theorem body_eq_N : theBody (F := F) = .op .deviceId fun c => bodyN c := by
  rw [body_eq]
  refine congrArg _ (funext fun c => ?_)
  rw [startP_congr _ (slab_wordExact c) _ (dev1_eq c) (dev2_eq c) (slotM_congr (off1_eq c) _ _),
    hopAt_eq c 0 ⟨k0_dev3 c, k0_dev3_lt c⟩ ⟨k0_dev4 c, k0_dev4_lt c⟩ _ (k0_dev3_eq c) (k0_dev4_eq c),
    hopAt_eq c 1 ⟨k0_dev5 c, k0_dev5_lt c⟩ ⟨k0_dev6 c, k0_dev6_lt c⟩ _ (k0_dev5_eq c) (k0_dev6_eq c),
    hopAt_eq c 2 ⟨k0_dev7 c, k0_dev7_lt c⟩ ⟨k0_dev8 c, k0_dev8_lt c⟩ _ (k0_dev7_eq c) (k0_dev8_eq c),
    hopAt_eq c 3 ⟨k0_dev9 c, k0_dev9_lt c⟩ ⟨k0_dev10 c, k0_dev10_lt c⟩ _ (k0_dev9_eq c) (k0_dev10_eq c),
    hopAt_eq c 4 ⟨k0_dev11 c, k0_dev11_lt c⟩ ⟨k0_dev12 c, k0_dev12_lt c⟩ _ (k0_dev11_eq c) (k0_dev12_eq c),
    hopAt_eq c 5 ⟨k0_dev13 c, k0_dev13_lt c⟩ ⟨k0_dev14 c, k0_dev14_lt c⟩ _ (k0_dev13_eq c) (k0_dev14_eq c),
    hopAt_eq c 6 ⟨k0_dev15 c, k0_dev15_lt c⟩ ⟨k0_dev16 c, k0_dev16_lt c⟩ _ (k0_dev15_eq c) (k0_dev16_eq c),
    hopAt_eq c 7 ⟨k0_dev17 c, k0_dev17_lt c⟩ ⟨k0_dev18 c, k0_dev18_lt c⟩ _ (k0_dev17_eq c) (k0_dev18_eq c),
    hopAt_eq c 8 ⟨k0_dev19 c, k0_dev19_lt c⟩ ⟨k0_dev20 c, k0_dev20_lt c⟩ _ (k0_dev19_eq c) (k0_dev20_eq c),
    hopAt_eq c 9 ⟨k0_dev21 c, k0_dev21_lt c⟩ ⟨k0_dev22 c, k0_dev22_lt c⟩ _ (k0_dev21_eq c) (k0_dev22_eq c),
    hopAt_eq c 10 ⟨k0_dev23 c, k0_dev23_lt c⟩ ⟨k0_dev24 c, k0_dev24_lt c⟩ _ (k0_dev23_eq c) (k0_dev24_eq c),
    hopAt_eq c 11 ⟨k0_dev25 c, k0_dev25_lt c⟩ ⟨k0_dev26 c, k0_dev26_lt c⟩ _ (k0_dev25_eq c) (k0_dev26_eq c),
    hopAt_eq c 12 ⟨k0_dev27 c, k0_dev27_lt c⟩ ⟨k0_dev28 c, k0_dev28_lt c⟩ _ (k0_dev27_eq c) (k0_dev28_eq c),
    hopAt_eq c 13 ⟨k0_dev29 c, k0_dev29_lt c⟩ ⟨k0_dev30 c, k0_dev30_lt c⟩ _ (k0_dev29_eq c) (k0_dev30_eq c),
    hopAt_eq c 14 ⟨k0_dev31 c, k0_dev31_lt c⟩ ⟨k0_dev32 c, k0_dev32_lt c⟩ _ (k0_dev31_eq c) (k0_dev32_eq c),
    lastP_congr _ _ (k0_off10_inb c) (k0_off11_inb c) (piece_wordExact _ _) (piece_wordExact _ _) (rowOff_inb _ _) (rowOff_inb _ _) _
      (half_congr (off8_eq c) _ _) (half_congr (off9_eq c) _ _) (off10_eq c) (off11_eq c)]
  rfl

end Cert.GatherMatmul

end
-- ==== Proof.Ring.lean ====
/-
# The protocol of the ring: semaphores, what they stand for, and in what order they are waited on

Each device has sixty transfer semaphores (two directions, send and receive, fifteen hops) and one barrier semaphore.
What a semaphore stands for when it is raised is fixed here once, as a schedule:

* the barrier semaphore of a device is raised by both its neighbours; each hands over the fifteen pieces of its own
  gather buffer that the device will write into;
* the receive semaphore of hop `j` hands the receiver its piece for hop `j + 1`, holding the rows of `x` it should;
* the send semaphore of hop `j` hands the sender back the half share of the piece it lent to the transfer.

Every wait is allowed because what a device still owes while it waits lies later in the order: barrier first, then the
receive semaphores hop by hop.
-/
module

public import proofs.«01_k».proof.Proof.Pieces
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Transfers
public import Idealize.ShloMosaic.Lib.Tactic

@[expose] public section

noncomputable section

namespace Cert.GatherMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-! ## The resource algebra -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's own component. -/
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance
/-- The component of the copies that stay on one device. -/
abbrev EC : UEmb Counters (MT nD τ sig Unit (Elt F) ℕ UU ℕ) := countersEmb (U := UU)

variable (m : (ℓ : Loc nD τ sig) → Buf (Elt F) ℓ) (ρ : Dev nD → PrngReg)

abbrev s₀ : MemSt nD τ sig (Elt F) := ⟨m, fun _ => 0, ρ⟩

/-! ## The contents of the gather buffer -/

/-- Row `r`, column `k` of a device's rows of `x`. -/
def xAt (c : Dev nD) (r : Fin 512) (k : Fin 8192) : Elt F .f32 :=
  (show S512x8192.Idx → Elt F .f32 from m ((c : Thread nD τ).loc main_arg0)) (Fin.cons r (Fin.cons k finZeroElim))

/-- The gathered `x`: slot `s` holds the rows of device `s`. Every piece of every device's buffer ends with these. -/
def gathered : (main_v1_1 : Ref sig .tc).ty.Contents (Elt F) :=
  show S16x512x8192.Idx → Elt F .f32 from fun i => xAt m (i 0) (i 1) (i 2)

/-- Piece `(d, s)` of device `c`'s gather buffer, held at share `q` with contents `f`. -/
def pcPts (d : Bool) (c s : Dev nD) (q : PosShare TreeShare) (f : (main_v1_1 : Ref sig .tc).ty.Contents (Elt F)) : sProp 𝕄 :=
  (piece d s).view.loc (c : Thread nD τ) ↦[(piece d s).view.set]{q} f
instance pcPts_storable (d : Bool) (c s : Dev nD) (q) (f) : BI.Storable (upEmb : UEmb _ 𝕄) (pcPts (F := F) d c s q f) := by
  unfold pcPts; infer_instance

omit [FloatOps F] in
theorem pcPts_halves (d : Bool) (c s : Dev nD) (f : (main_v1_1 : Ref sig .tc).ty.Contents (Elt F)) :
    pcPts d c s fullShare f ⊣⊢ (iprop(pcPts d c s fullShare.left f ∗ pcPts d c s fullShare.right f) : sProp 𝕄) :=
  pointsTo_share (PosShare.mem_left_op_right fullShare)

omit [FloatOps F] in
/-- What is written into a piece from a piece of the same place is the same contents. -/
theorem pcPts_copied (d : Bool) (c s : Dev nD) (q) (fd f : (main_v1_1 : Ref sig .tc).ty.Contents (Elt F)) :
    (((piece d s).view.loc (c : Thread nD τ) ↦[(piece d s).view.set]{q} (piece d s).view.write (Elt F) fd ((piece d s).view.read (Elt F) f) Finset.univ) : sProp 𝕄)
      = pcPts d c s q f := by
  unfold pcPts
  refine pointsTo_congr fun i hi => ?_
  obtain ⟨x, rfl⟩ := View.exists_emb_of_mem_set (piece d s).view hi
  exact View.eq_of_read_eq (View.read_write_of_mem _ _ (Finset.mem_univ x))

/-! ## The cells -/

abbrev barCell (c : Dev nD) : GSem nD τ sig := ((c : Thread nD τ), .reg barS)
abbrev xCell (d r : Bool) (h : Fin 15) (c : Dev nD) : GSem nD τ sig := ((c : Thread nD τ), .dma (xferS d r h))

/-- What a semaphore is for: direction, receiver's or sender's, hop. -/
def role : SemLoc sig → Option (Bool × Bool × ℕ)
  | .dma q => if 2 ≤ q.val ∧ q.val < 62 then some (decide (q.val < 32), decide ((q.val - 2) / 15 % 2 = 1), (q.val - 2) % 15) else none
  | .reg _ => none

theorem xferS_val (d r : Bool) (h : Fin 15) : (xferS d r h : Fin sig.nDmaSem).val = 2 + ((if d then 0 else 30) + (if r then 15 else 0) + h.val) := rfl

theorem role_xfer (d r : Bool) (h : Fin 15) : role (.dma (xferS d r h)) = some (d, r, h.val) := by
  have := h.isLt
  refine (if_pos ?_).trans (congrArg some (Prod.ext ?_ (Prod.ext ?_ ?_)))
  · rw [xferS_val]; cases d <;> cases r <;> simp <;> omega
  · dsimp only; cases d <;> cases r <;> simp <;> omega
  · dsimp only; cases d <;> cases r <;> simp <;> omega
  · dsimp only; cases d <;> cases r <;> simp <;> omega

theorem xferS_inj {d r d' r' : Bool} {h h' : Fin 15} (e : xferS d r h = xferS d' r' h') : d = d' ∧ r = r' ∧ h = h' := by
  have := (role_xfer d r h).symm.trans ((congrArg (fun q => role (.dma q)) e).trans (role_xfer d' r' h'))
  injection this with this
  injection this with h1 h2
  injection h2 with h2 h3
  exact ⟨h1, h2, Fin.ext h3⟩

theorem xCell_inj {d r d' r' : Bool} {h h' : Fin 15} {c c' : Dev nD} (e : xCell d r h c = xCell d' r' h' c') : d = d' ∧ r = r' ∧ h = h' ∧ c = c' := by
  have h1 : c = c' := congrArg (fun g : GSem nD τ sig => g.1.1) e
  have h2 : (SemLoc.dma (xferS d r h) : SemLoc sig) = .dma (xferS d' r' h') := congrArg Prod.snd e
  injection h2 with h2
  obtain ⟨a, b, f⟩ := xferS_inj h2
  exact ⟨a, b, f, h1⟩

theorem xfer_ne_bar (q : DmaSem sig) : (SemLoc.dma q : SemLoc sig) ≠ .reg barS := fun h => by cases h

/-- The credit of one piece. -/
def N : ℕ := (piece true 0).view.dmaCredit
theorem N_pos : 0 < N := View.dmaCredit_pos _ (by decide)
theorem N_eq (d : Bool) (s : Dev nD) : (piece d s).view.dmaCredit = N := rfl

/-! ## The schedule -/

/-- What `onward d c` hands to `c` at the barrier: the fifteen pieces of its own buffer that `c` will write. -/
def barPay (d : Bool) (c : Dev nD) : sProp 𝕄 :=
  bigSep Finset.univ fun j : Fin 15 => iprop(∃ f, pcPts d (onward d c) (slot d c j.val) fullShare f)

/-- What the semaphore of role `o` hands over on device `c`. -/
def xferPay (c : Dev nD) : Option (Bool × Bool × ℕ) → sProp 𝕄
  | some (d, true, j) => pcPts d c (slot d c (j + 1)) fullShare (gathered m)
  | some (d, false, j) => pcPts d c (slot d c j) fullShare.left (gathered m)
  | none => iprop(emp)

omit [FloatOps F] in
instance barPay_storable (d : Bool) (c : Dev nD) : BI.Storable (upEmb : UEmb _ 𝕄) (barPay (F := F) d c) := by unfold barPay; infer_instance
omit [FloatOps F] in
instance xferPay_storable (c : Dev nD) (o) : BI.Storable (upEmb : UEmb _ 𝕄) (xferPay (F := F) m c o) := by
  unfold xferPay; split <;> infer_instance

def Rd : Rounds.Schedule (GSem nD τ sig) Bool 𝕄 where
  duties g r := if r = 0 ∧ g.1.2 = .tc then (if g.2 = .reg barS then Finset.univ else if (role g.2).isSome then {false} else ∅) else ∅
  unitless _ := False
  amount g _ _ := if g.2 = .reg barS then 1 else N
  payload g _ b := if g.2 = .reg barS then barPay b g.1.1 else xferPay m g.1.1 (role g.2)
  amount_pos g _ _ _ := by
    by_cases h : g.2 = .reg barS
    · rw [if_pos h]; exact Nat.one_pos
    · rw [if_neg h]; exact N_pos

instance Rd_payload_storable (g : GSem nD τ sig) (r : ℕ) (b : Bool) :
    BI.Storable (upEmb : UEmb _ 𝕄) ((Rd (F := F) m).payload g r b) := by
  show BI.Storable upEmb (if g.2 = .reg barS then barPay b g.1.1 else xferPay m g.1.1 (role g.2))
  split <;> infer_instance

section Sched
variable (c : Dev nD) (d r : Bool) (h : Fin 15)

omit [FloatOps F] in
theorem duties_bar : (Rd (F := F) m).duties (barCell c) 0 = Finset.univ := by
  dsimp only [Rd]; rw [if_pos ⟨rfl, rfl⟩, if_pos rfl]
omit [FloatOps F] in
theorem duties_x : (Rd (F := F) m).duties (xCell d r h c) 0 = {false} := by
  dsimp only [Rd]; rw [if_pos ⟨rfl, rfl⟩, if_neg (xfer_ne_bar _), role_xfer]; rfl
omit [FloatOps F] in
theorem duties_later (g : GSem nD τ sig) : ∀ k, 1 ≤ k → (Rd (F := F) m).duties g k = ∅ :=
  fun k hk => by dsimp only [Rd]; rw [if_neg fun e => by omega]

omit [FloatOps F] in
theorem amount_bar (b : Bool) : (Rd (F := F) m).amount (barCell c) 0 b = 1 := by dsimp only [Rd]; exact if_pos rfl
omit [FloatOps F] in
theorem amount_x (b : Bool) : (Rd (F := F) m).amount (xCell d r h c) 0 b = N := by
  dsimp only [Rd]; exact if_neg (xfer_ne_bar _)

omit [FloatOps F] in
theorem expect_bar : (Rd (F := F) m).expect (barCell c) 0 = 2 := by
  unfold Schedule.expect Schedule.amountOf
  rw [duties_bar, Finset.sum_congr rfl fun b _ => amount_bar m c b, Finset.sum_const, Finset.card_univ, Fintype.card_bool, smul_eq_mul]
omit [FloatOps F] in
theorem expect_x : (Rd (F := F) m).expect (xCell d r h c) 0 = N := by
  unfold Schedule.expect Schedule.amountOf; rw [duties_x, Finset.sum_singleton, amount_x]

omit [FloatOps F] in
theorem payload_bar (b : Bool) : (Rd (F := F) m).payload (barCell c) 0 b = barPay b c := by dsimp only [Rd]; rw [if_pos rfl]
omit [FloatOps F] in
theorem payload_recv (b : Bool) : (Rd (F := F) m).payload (xCell d true h c) 0 b = pcPts d c (slot d c (h.val + 1)) fullShare (gathered m) := by
  dsimp only [Rd]; rw [if_neg (xfer_ne_bar _), role_xfer]; rfl
omit [FloatOps F] in
theorem payload_send (b : Bool) : (Rd (F := F) m).payload (xCell d false h c) 0 b = pcPts d c (slot d c h.val) fullShare.left (gathered m) := by
  dsimp only [Rd]; rw [if_neg (xfer_ne_bar _), role_xfer]; rfl

omit [FloatOps F] in
theorem rest_bar : bigSep ((Rd (F := F) m).duties (barCell c) 0 \ ∅) (fun b => (Rd (F := F) m).payload (barCell c) 0 b) = iprop(barPay false c ∗ barPay true c) := by
  rw [Finset.sdiff_empty, duties_bar, bigSep_univ_eq_bigSepL [false, true] (by decide) (by decide), bigSepL_cons_cons, bigSepL_singleton,
    payload_bar, payload_bar]
  rfl
omit [FloatOps F] in
theorem rest_x : bigSep ((Rd (F := F) m).duties (xCell d r h c) 0 \ ∅) (fun b => (Rd (F := F) m).payload (xCell d r h c) 0 b)
    = (Rd (F := F) m).payload (xCell d r h c) 0 false := by
  rw [Finset.sdiff_empty, duties_x, bigSep_singleton]

end Sched

/-! ## What a device owes; the order of the waits -/

/-- From hop `h` on, device `c` owes both neighbours the arrival of each remaining hop's piece. -/
def owed (c : Dev nD) (h : ℕ) : CellTallies nD τ sig Unit :=
  ∑ j : Fin 15, if h ≤ j.val then tallyAt (xCell false true j (onward false c)) () N + tallyAt (xCell true true j (onward true c)) () N else 0

theorem owed_step (c : Dev nD) (h : Fin 15) :
    owed c h.val = (owed c (h.val + 1) + tallyAt (xCell false true h (onward false c)) () N) + tallyAt (xCell true true h (onward true c)) () N := by
  unfold owed
  have hs : ∀ f : Fin 15 → CellTallies nD τ sig Unit, ∑ j ∈ Finset.univ.erase h, (if h.val ≤ j.val then f j else 0)
      = ∑ j ∈ Finset.univ.erase h, (if h.val + 1 ≤ j.val then f j else 0) := fun f => Finset.sum_congr rfl fun j hj => by
    have : j.val ≠ h.val := fun e => Finset.ne_of_mem_erase hj (Fin.ext e)
    by_cases hle : h.val ≤ j.val
    · rw [if_pos hle, if_pos (by omega)]
    · rw [if_neg hle, if_neg (by omega)]
  rw [← Finset.add_sum_erase Finset.univ _ (Finset.mem_univ h), ← Finset.add_sum_erase Finset.univ _ (Finset.mem_univ h), if_pos le_rfl,
    if_neg (by omega), zero_add, hs]
  exact (add_comm _ _).trans (add_assoc _ _ _).symm

theorem owed_end (c : Dev nD) : owed c 15 = 0 :=
  Finset.sum_eq_zero fun j _ => if_neg (by have := j.isLt; omega)

theorem owed_pos {c : Dev nD} {h : ℕ} {g : GSem nD τ sig} {u : Unit} (hp : 0 < owed c h g u) :
    ∃ d j, h ≤ j.val ∧ g = xCell d true j (onward d c) := by
  unfold owed at hp
  rw [Finset.sum_apply, Finsupp.finset_sum_apply] at hp
  obtain ⟨j, -, hj⟩ := Finset.exists_ne_zero_of_sum_ne_zero (Nat.pos_iff_ne_zero.1 hp)
  by_cases hle : h ≤ j.val
  · rw [if_pos hle, Pi.add_apply, Finsupp.add_apply, tallyAt_apply, tallyAt_apply] at hj
    by_cases h1 : g = xCell false true j (onward false c)
    · exact ⟨false, j, hle, h1⟩
    by_cases h2 : g = xCell true true j (onward true c)
    · exact ⟨true, j, hle, h2⟩
    rw [if_neg (fun e => h1 e.1), if_neg (fun e => h2 e.1)] at hj
    exact absurd rfl hj
  · rw [if_neg hle] at hj; exact absurd rfl hj

/-- After the first signal. -/
def owed₁ (c : Dev nD) : CellTallies nD τ sig Unit := owed c 0 + tallyAt (barCell (onward true c)) () 1
/-- At the launch. -/
def owed₀ (c : Dev nD) : CellTallies nD τ sig Unit := owed₁ c + tallyAt (barCell (onward false c)) () 1

def L (g : GSem nD τ sig) : Finset Unit := if g.1.2 = .tc then {()} else ∅
/-- The order of the waits. -/
def lv (g : GSem nD τ sig) (_ : Unit) : ℕ :=
  if g.2 = .reg barS then 1 else match role g.2 with | some (_, true, j) => 2 + j | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (d : Bool) (h : Fin 15) (c : Dev nD) (u : Unit) : lv (xCell d true h c) u = 2 + h.val := by
  unfold lv; rw [if_neg (xfer_ne_bar _), role_xfer]
theorem lv_send (d : Bool) (h : Fin 15) (c : Dev nD) (u : Unit) : lv (xCell d false h c) u = 0 := by
  unfold lv; rw [if_neg (xfer_ne_bar _), role_xfer]
theorem lv_of_none (c : Dev nD) {q : DmaSem sig} (hq : role (.dma q) = none) (u : Unit) : lv ((c : Thread nD τ), .dma q) u = 0 := by
  unfold lv; rw [if_neg (xfer_ne_bar _), hq]

theorem owed₀_pos {c : Dev nD} {g : GSem nD τ sig} {u : Unit} (hp : 0 < owed₀ c g u) : g.1.2 = .tc ∧ 0 < lv g u := by
  unfold owed₀ owed₁ at hp
  rw [Pi.add_apply, Finsupp.add_apply, Pi.add_apply, Finsupp.add_apply, tallyAt_apply, tallyAt_apply] at hp
  by_cases h1 : g = barCell (onward true c)
  · subst h1; exact ⟨rfl, by rw [lv_bar]; exact Nat.one_pos⟩
  by_cases h2 : g = barCell (onward false c)
  · subst h2; exact ⟨rfl, by rw [lv_bar]; exact Nat.one_pos⟩
  rw [if_neg (fun e => h1 e.1), if_neg (fun e => h2 e.1), add_zero, add_zero] at hp
  obtain ⟨d, j, -, rfl⟩ := owed_pos hp
  exact ⟨rfl, by rw [lv_recv]; omega⟩

omit [FloatOps F] in
/-- A wait is allowed when all that is owed lies later. -/
theorem mayWait_of (c : Dev nD) (sm : SemLoc sig) (O : CellTallies nD τ sig Unit)
    (hO : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp])
    (fun g u hg => (hO g u hg).2)

omit [FloatOps F] in
/-- Owing the hops from `h` on, a device may wait on any semaphore below them. -/
theorem mayWait_owed (c : Dev nD) (sm : SemLoc sig) (h : ℕ) (hl : lv ((c : Thread nD τ), sm) () < 2 + h) :
    (levAts L lv : sProp 𝕄) ⊢ MayWait (c : Thread nD τ) sm () (owed c h) :=
  mayWait_of c sm _ fun g u hp => by
    obtain ⟨d, j, hj, rfl⟩ := owed_pos hp
    exact ⟨rfl, by rw [lv_recv]; omega⟩

end Cert.GatherMatmul

end
-- ==== Proof.Steps.lean ====
/-
# The steps of a hop, each proved once

One rule per step of a hop, for a symbolic device, direction and hop: start a transfer, start the copy on chip, multiply
and store, wait for the arriving piece, wait for the sent one. The multiply step also says which rows of the result it
settles.
-/
module

public import proofs.«01_k».proof.Proof.Ring

@[expose] public section

noncomputable section

namespace Cert.GatherMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The specification of a program of device `c`'s core. -/
abbrev wpB (c : Dev nD) (p : Body F) (Kt : PUnit → sProp 𝕄) : sProp 𝕄 :=
  wp frame (wpE (defs₀ (F := F)) 𝒱₀ (c : Thread nD τ) none) Set.univ p Kt

/-! ## The cells' invariants -/

/-- The cells of one device: its transfer semaphores and its barrier. -/
abbrev CI : Type := (Bool × Bool × Fin 15) ⊕ Unit
def cellAt : Dev nD × CI → GSem nD τ sig
  | (c, .inl (d, r, h)) => xCell d r h c
  | (c, .inr _) => barCell c

variable (K : Dev nD × CI → ℕ)

/-- Every cell's invariant, and that its first round is open. -/
def records : sProp 𝕄 :=
  bigSep Finset.univ fun ck : Dev nD × CI => iprop(cellInv ER (Rd m) (K ck) (cellAt ck) ∗ reached ER (cellAt ck) 0)
instance records_persistent : BI.Persistent (records m K) := by unfold records; infer_instance

omit [FloatOps F] in
theorem records_at (ck : Dev nD × CI) : records m K ⊢ iprop(cellInv ER (Rd m) (K ck) (cellAt ck) ∗ reached ER (cellAt ck) 0) :=
  bigSep_elim (Finset.mem_univ ck)
omit [FloatOps F] in
theorem records_x (d r : Bool) (h : Fin 15) (c : Dev nD) :
    records m K ⊢ iprop(cellInv ER (Rd m) (K (c, .inl (d, r, h))) (xCell d r h c) ∗ reached ER (xCell d r h c) 0) := records_at m K (c, .inl (d, r, h))
omit [FloatOps F] in
theorem records_bar (c : Dev nD) :
    records m K ⊢ iprop(cellInv ER (Rd m) (K (c, .inr ())) (barCell c) ∗ reached ER (barCell c) 0) := records_at m K (c, .inr ())

/-! ## What one transfer needs and leaves -/

/-- What the receiving side of device `c` holds for hop `j` until its wait. -/
def recvRes (c : Dev nD) (d : Bool) (j : Fin 15) : sProp 𝕄 :=
  iprop(cred (tallyAt (xCell d true j c) () N) ∗ atPos ER (xCell d true j c) 0 ∅ 0)

/-- What device `c` holds for hop `j` before it: the piece of its neighbour's buffer it will write, the two duties of
    the transfer, and what its own two waits need. -/
def pend (c : Dev nD) (d : Bool) (j : Fin 15) : sProp 𝕄 :=
  iprop((∃ f, pcPts d (onward d c) (slot d c j.val) fullShare f) ∗ dutyTok ER (xCell d true j (onward d c)) 0 false
    ∗ dutyTok ER (xCell d false j c) 0 false ∗ atPos ER (xCell d false j c) 0 ∅ 0 ∗ recvRes c d j)

/-- After it: the two semaphores at zero. -/
def done (c : Dev nD) (d : Bool) (j : Fin 15) : sProp 𝕄 :=
  iprop(semVal (xCell d true j c) 0 ∗ semVal (xCell d false j c) 0)

/-- What the sending side holds between the send and its wait. -/
def sentRes (c : Dev nD) (d : Bool) (j : Fin 15) : sProp 𝕄 :=
  iprop(cred (tallyAt (xCell d false j c) () N) ∗ atPos ER (xCell d false j c) 0 ∅ 0)

/-- All fifteen hops of a direction, `h` of them done. -/
def hops (c : Dev nD) (d : Bool) (h : ℕ) : sProp 𝕄 :=
  bigSep Finset.univ fun j : Fin 15 => if h ≤ j.val then pend c d j else done c d j

omit [FloatOps F] in
theorem hops_step (c : Dev nD) (d : Bool) (h : Fin 15) :
    (hops c d h.val : sProp 𝕄) ⊢ iprop(pend c d h ∗ (done c d h -∗ hops c d (h.val + 1))) := by
  have := bigSep_univ_update (M := 𝕄) (Φ := fun j : Fin 15 => if h.val ≤ j.val then pend c d j else done c d j)
    (Ψ := fun j : Fin 15 => if h.val + 1 ≤ j.val then pend c d j else done c d j) h (fun j hj => by
      have : j.val ≠ h.val := fun e => hj (Fin.ext e)
      by_cases hle : h.val ≤ j.val
      · rw [if_pos hle, if_pos (by omega)]
      · rw [if_neg hle, if_neg (by omega)])
  rw [if_pos le_rfl, if_neg (by omega)] at this
  exact this

/-! ## The send -/

theorem wp_send_any (c n : Dev nD) (q₁ q₂ : DmaSem sig) (κ₁ κ₂ : ℕ) (p : Memref sig .tc .hbm S256x8192 .f32) (hp : p.view.WordExact)
    (A : ℕ) (hN : p.view.dmaCredit = A) (fs fn : p.view.ty.Contents (Elt F)) (q : PosShare TreeShare)
    (h1 : (p.view.loc (c : Thread nD τ) ↦[p.view.set]{q} fs : sProp 𝕄) ⊢ (Rd m).payload ((c : Thread nD τ), .dma q₁) 0 false)
    (h2 : (p.view.loc (n : Thread nD τ) ↦[p.view.set]{fullShare} p.view.write (Elt F) fn (p.view.read (Elt F) fs) Finset.univ : sProp 𝕄)
      ⊢ (Rd m).payload ((n : Thread nD τ), .dma q₂) 0 false)
    (h3 : false ∈ (Rd m).duties ((c : Thread nD τ), .dma q₁) 0) (h4 : false ∈ (Rd m).duties ((n : Thread nD τ), .dma q₂) 0)
    (h5 : (Rd m).amount ((c : Thread nD τ), .dma q₁) 0 false = A) (h6 : (Rd m).amount ((n : Thread nD τ), .dma q₂) 0 false = A)
    (hsem : DmaTarget.Typed .hbm (.dma q₂) (.remote (Dev.tc n : Thread nD τ) p (.dma q₁)))
    (O : CellTallies nD τ sig Unit) (W : Waits sig Unit) (k : Body F) (Kt : PUnit → sProp 𝕄) :
    iprop(cellInv ER (Rd m) κ₁ ((c : Thread nD τ), .dma q₁) ∗ cellInv ER (Rd m) κ₂ ((n : Thread nD τ), .dma q₂)
        ∗ (p.view.loc (c : Thread nD τ) ↦[p.view.set]{q} fs) ∗ (p.view.loc (n : Thread nD τ) ↦[p.view.set]{fullShare} fn)
        ∗ owes (c : Thread nD τ) (O + tallyAt ((n : Thread nD τ), .dma q₂) () A) W
        ∗ dutyTok ER ((c : Thread nD τ), .dma q₁) 0 false ∗ reached ER ((c : Thread nD τ), .dma q₁) 0
        ∗ dutyTok ER ((n : Thread nD τ), .dma q₂) 0 false ∗ reached ER ((n : Thread nD τ), .dma q₂) 0)
      ⊢ iprop(((cred (tallyAt ((c : Thread nD τ), .dma q₁) () A) ∗ owes (c : Thread nD τ) O W) -∗ wpB c k Kt)
          -∗ wpB c (.op (.enqueueDma p (.remote (Dev.tc n : Thread nD τ) p (.dma q₁)) (.dma q₂) hp hp hsem) fun _ => k) Kt) :=
  Rounds.wp_send_pointsTo 𝒱₀ ER (Rd m) (c : Thread nD τ) none (κ₁ := κ₁) (κ₂ := κ₂) (src := p) (dst := p) (c' := (n : Thread nD τ))
    (Es := Set.univ) (hsrc := hp) (hdst := hp) (hsem := hsem) (k := fun _ => k) (Q := Kt) (r₁ := 0) (r₂ := 0) (d₁ := false) (d₂ := false)
    (fd := fn) h3 h4 () () A hN h5 h6 O rfl (W := W) h1 h2 (by routes)

theorem wp_send_raw (c : Dev nD) (d : Bool) (h : Fin 15) (κ₁ κ₂ : ℕ) (fn : (main_v1_1 : Ref sig .tc).ty.Contents (Elt F))
    (O : CellTallies nD τ sig Unit) (W : Waits sig Unit) (k : Body F) (Kt : PUnit → sProp 𝕄) :
    iprop(cellInv ER (Rd m) κ₁ (xCell d false h c) ∗ cellInv ER (Rd m) κ₂ (xCell d true h (onward d c))
        ∗ pcPts d c (slot d c h.val) fullShare.left (gathered m) ∗ pcPts d (onward d c) (slot d c h.val) fullShare fn
        ∗ owes (c : Thread nD τ) (O + tallyAt (xCell d true h (onward d c)) () N) W
        ∗ dutyTok ER (xCell d false h c) 0 false ∗ reached ER (xCell d false h c) 0
        ∗ dutyTok ER (xCell d true h (onward d c)) 0 false ∗ reached ER (xCell d true h (onward d c)) 0)
      ⊢ iprop(((cred (tallyAt (xCell d false h c) () N) ∗ owes (c : Thread nD τ) O W) -∗ wpB c k Kt)
          -∗ wpB c (sendP d h (piece d (slot d c h.val)) (piece_wordExact d _) (onward d c) k) Kt) := by
  exact wp_send_any m c (onward d c) (sendS d h) (recvS d h) κ₁ κ₂ (piece d (slot d c h.val)) (piece_wordExact d _) N (N_eq d _)
    (gathered m) fn fullShare.left
    (by rw [payload_send]; exact BI.Entails.refl _)
    (by rw [payload_recv, slot_onward]; exact Entails.of_eq (pcPts_copied d (onward d c) (slot d c h.val) fullShare fn (gathered m)))
    (by rw [duties_x m c d false h]; exact Finset.mem_singleton_self _)
    (by rw [duties_x m (onward d c) d true h]; exact Finset.mem_singleton_self _)
    (amount_x m c d false h false) (amount_x m (onward d c) d true h false) _ O W k Kt

theorem wp_sendP (c : Dev nD) (d : Bool) (h : Fin 15) (O : CellTallies nD τ sig Unit) (W : Waits sig Unit) (k : Body F) (Kt : PUnit → sProp 𝕄) :
    iprop(records m K ∗ pcPts d c (slot d c h.val) fullShare (gathered m) ∗ pend c d h
        ∗ owes (c : Thread nD τ) (O + tallyAt (xCell d true h (onward d c)) () N) W)
      ⊢ iprop(((pcPts d c (slot d c h.val) fullShare.right (gathered m) ∗ sentRes c d h ∗ recvRes c d h ∗ owes (c : Thread nD τ) O W) -∗ wpB c k Kt)
          -∗ wpB c (sendP d h (piece d (slot d c h.val)) (piece_wordExact d _) (onward d c) k) Kt) := by
  unfold pend
  iintro ⟨#HR, Hp, ⟨⟨%fn, Hn⟩, HtR, HtS, HaS, Hrecv⟩, HO⟩ Hk
  ihave Hp2 := (pcPts_halves d c _ _).1 $$ Hp
  icases Hp2 with ⟨HpL, HpR⟩
  ihave #H1 := (records_x m K d false h c) $$ HR
  ihave #H2 := (records_x m K d true h (onward d c)) $$ HR
  icases H1 with ⟨HI1, Hr1⟩
  icases H2 with ⟨HI2, Hr2⟩
  iapply (wp_send_raw m c d h (K (c, .inl (d, false, h))) (K (onward d c, .inl (d, true, h))) fn O W k Kt) $$ [HpL Hn HO HtS HtR]
  · isplitr; · iexact HI1
    isplitr; · iexact HI2
    isplitl [HpL]; · iexact HpL
    isplitl [Hn]; · iexact Hn
    isplitl [HO]; · iexact HO
    isplitl [HtS]; · iexact HtS
    isplitr; · iexact Hr1
    isplitl [HtR]; · iexact HtR
    iexact Hr2
  iintro ⟨Hc, HO⟩
  iapply Hk
  unfold sentRes
  isplitl [HpR]; · iexact HpR
  isplitl [Hc HaS]; · isplitl [Hc] <;> iassumption
  isplitl [Hrecv]; · iexact Hrecv
  iexact HO

/-! ## The waits on transfers -/

theorem wp_wait_x (c : Dev nD) (d r : Bool) (h : Fin 15) (O : CellTallies nD τ sig Unit) (W : Waits sig Unit)
    (p : Memref sig .tc .hbm S256x8192 .f32) (hp : p.view.WordExact) (hN : p.view.dmaCredit = N) (k : Body F) (Kt : PUnit → sProp 𝕄) :
    iprop(records m K ∗ MayWait (c : Thread nD τ) (.dma (xferS d r h)) () O ∗ cred (tallyAt (xCell d r h c) () N) ∗ atPos ER (xCell d r h c) 0 ∅ 0
        ∗ owes (c : Thread nD τ) O W)
      ⊢ iprop(((semVal (xCell d r h c) 0 ∗ (Rd m).payload (xCell d r h c) 0 false ∗ owes (c : Thread nD τ) O (insert (SemLoc.dma (xferS d r h), ()) W)) -∗ wpB c k Kt)
          -∗ wpB c (waitP (xferS d r h) p hp k) Kt) := by
  iintro ⟨#HR, HM, Hc, Hat, HO⟩ Hk
  ihave #H1 := (records_x m K d r h c) $$ HR
  icases H1 with ⟨HI, -⟩
  unfold waitP
  iapply (Rounds.wp_wait_rest_token 𝒱₀ ER (Rd m) (c : Thread nD τ) none (κ := K (c, .inl (d, r, h)))
      (wpE_waitDma2_eq 𝒱₀ (c : Thread nD τ) none Set.univ) (Set.mem_univ _) () (O := O) (W := W) (R := 0) (m := 0) (T := ∅)
      (by rw [Nat.zero_add, hN, expect_x m c d r h])) $$ [Hc HO HM Hat]
  · isplitr; · iexact HI
    isplitl [Hc]; · iexact Hc
    isplitl [HO]; · iexact HO
    isplitl [HM]; · iexact HM
    iexact Hat
  iintro ⟨HO, Hat, -, Hpay⟩
  ihave Hpay := (Entails.of_eq (rest_x m c d r h)) $$ Hpay
  imod (Rounds.cell_close ER (Rd m) (Set.mem_univ (K (c, .inl (d, r, h)))) (fun h => h) (R := 0 + 1) (duties_later m (xCell d r h c))) $$ [Hat] with Hz
  · isplitr; · iexact HI
    iexact Hat
  iapply Hk
  isplitl [Hz]; · iexact Hz
  isplitl [Hpay]; · iexact Hpay
  iexact HO

/-! ## The copy on chip -/

theorem hz : (![0, 0] : Fin 2 → Nat) = fun _ => 0 := funext fun a => by fin_cases a <;> rfl

/-- The rows a piece holds. -/
def rows (d : Bool) (s : Dev nD) : Vec F S256x8192 .f32 := (piece d s).view.read (Elt F) (gathered m)

/-- The buffer the piece is copied to, with some contents. -/
def stAny (c : Dev nD) (d : Bool) : sProp 𝕄 :=
  iprop(∃ f : Buf (Elt F) ((stM d).view.loc (c : Thread nD τ)), (stM d).view.loc (c : Thread nD τ) ↦{fullShare} f)

/-- The copy of piece `(d, s)` under way. -/
def flying (c : Dev nD) (d : Bool) (s : Dev nD) : sProp 𝕄 :=
  iprop(∃ fd : Buf (Elt F) ((stM d).view.loc (c : Thread nD τ)), Flight EC (c : Thread nD τ) (.dma (stageS d)) () N
    iprop(((stM d).view.loc (c : Thread nD τ) ↦{fullShare} ((stM d).view.write (Elt F) fd (rows m d s) Finset.univ))
      ∗ pcPts d c s fullShare.right (gathered m)))

theorem wp_stageP (c : Dev nD) (d : Bool) (s : Dev nD) (k : Body F) (Kt : PUnit → sProp 𝕄) :
    iprop(pcPts d c s fullShare.right (gathered m) ∗ stAny c d ∗ semVal ((c : Thread nD τ), .dma (stageS d)) 0)
      ⊢ iprop((flying m c d s -∗ wpB c k Kt) -∗ wpB c (stageP d (piece d s) (piece_wordExact d s) k) Kt) := by
  unfold stAny flying pcPts rows
  iintro ⟨Hp, ⟨%fd, Hd⟩, Hz⟩ Hk
  cases d
  all_goals
    unfold stageP
    iapply (Transfers.wp_dmaLocal EC 𝒱₀ (c : Thread nD τ) none (fs := gathered m) (fd := fd) (Sd := Finset.univ) () N rfl N_pos (Finset.subset_univ _)) $$ [Hp Hd Hz]
    · isplitl [Hp]; · iexact Hp
      isplitl [Hd]; · iexact Hd
      iexact Hz
    iintro Hf
    iapply Hk
    iexists fd
    iexact Hf

/-! ## The product -/

abbrev rSt : Rect S256x8192 := Rect.unit (s := S256x8192) ![0, 0] S256x8192.size inb_S256x8192_S256x8192_0_0
abbrev rW : Rect S8192x256 := Rect.unit (s := S8192x256) ![0, 0] S8192x256.size inb_S8192x256_S8192x256_0_0
abbrev rO (d : Bool) (s : Dev nD) : Rect S8192x256 := Rect.unit (s := S8192x256) (rowOff d s) S256x256.size (rowOff_inb d s)

omit [FloatOps F] in
theorem read_stage (d : Bool) (c : Dev nD) (fd : Buf (Elt F) ((stM d).view.loc (c : Thread nD τ))) (v : Vec F S256x8192 .f32) :
    (stM d).view.readAt (Elt F) rSt.toLoadRect ((stM d).view.write (Elt F) fd v Finset.univ) = v := by
  cases d
  · exact (Memref.readAt_unit_zero (Elt F) cc0_scratch1 hz _ _).trans (View.write_whole_univ cc0_scratch1 fd v)
  · exact (Memref.readAt_unit_zero (Elt F) cc0_scratch0 hz _ _).trans (View.write_whole_univ cc0_scratch0 fd v)

/-- Row `i` of the result is made from piece `(d, s)`. -/
def inRows (d : Bool) (s : Dev nD) (i : S8192x256.Idx) : Prop := (i 0).val / 512 = s.val ∧ (d = true ↔ (i 0).val % 512 < 256)

/-- The result: each block of 256 rows from the piece it comes from. -/
def result (w : Vec F S8192x256 .f32) : Vec F S8192x256 .f32 := fun i =>
  k0_pay1 (rows m (decide ((i 0).val % 512 < 256)) ⟨(i 0).val / 512, by have := (i 0).isLt; have h : (i 0).val < 8192 := this; show _ < 16; omega⟩) w
    (show S256x256.Idx from Fin.cons ⟨(i 0).val % 256, Nat.mod_lt _ (by decide)⟩ (Fin.cons (i 1) finZeroElim))

/-- The rows in `P` are as they should be. -/
def Good (w : Vec F S8192x256 .f32) (P : S8192x256.Idx → Prop) (f : Vec F S8192x256 .f32) : Prop := ∀ i, P i → f i = result m w i

/-- The result with the rows of piece `(d, s)` stored. -/
def stored (w : Vec F S8192x256 .f32) (d : Bool) (s : Dev nD) (f : Vec F S8192x256 .f32) : Vec F S8192x256 .f32 :=
  ((oM : Memref sig .tc .vmem S8192x256 .f32).access (rO d s)).write (Elt F) f (k0_pay1 (rows m d s) w) Finset.univ

theorem stored_emb (w : Vec F S8192x256 .f32) (d : Bool) (s : Dev nD) (f : Vec F S8192x256 .f32) (y : S256x256.Idx) (i : S8192x256.Idx)
    (h0 : (i 0).val = 512 * s.val + top d + (y 0).val) (h1 : (i 1).val = (y 1).val) :
    stored m w d s f i = k0_pay1 (rows m d s) w y := by
  have e : (((oM : Memref sig .tc .vmem S8192x256 .f32).access (rO d s)).emb y : S8192x256.Idx) = i := by
    funext a
    apply Fin.ext
    refine (ValueKit.view_emb_slice_whole_unit_val cc0_stg1_0 (rowOff d s) S256x256.size (rowOff_inb d s) y a).trans ?_
    revert a
    refine Fin.forall_fin_succ.2 ⟨h0.symm, Fin.forall_fin_one.2 ?_⟩
    exact (Nat.zero_add _).trans h1.symm
  subst e
  exact View.write_emb_of_mem (v := ((oM : Memref sig .tc .vmem S8192x256 .f32).access (rO d s))) f _ (Finset.mem_univ y)

theorem stored_off (w : Vec F S8192x256 .f32) (d : Bool) (s : Dev nD) (f : Vec F S8192x256 .f32) (i : S8192x256.Idx) (h : ¬ inRows d s i) :
    stored m w d s f i = f i := by
  refine View.write_of_not_mem (v := ((oM : Memref sig .tc .vmem S8192x256 .f32).access (rO d s))) f _ _ fun hi => h ?_
  rw [View.setOn_univ] at hi
  obtain ⟨y, hy⟩ := View.exists_emb_of_mem_set _ hi
  have e := congrArg Fin.val (congrFun hy (0 : Fin 2))
  rw [show ((((oM : Memref sig .tc .vmem S8192x256 .f32).access (rO d s)).emb y : S8192x256.Idx) (0 : Fin 2)).val = rowOff d s 0 + (y (0 : Fin 2)).val from
    ValueKit.view_emb_slice_whole_unit_val cc0_stg1_0 (rowOff d s) S256x256.size (rowOff_inb d s) y 0] at e
  have e' : 512 * s.val + top d + (y (0 : Fin 2)).val = (i 0).val := e
  have hy : (y (0 : Fin 2)).val < 256 := (y (0 : Fin 2)).isLt
  unfold inRows top at *
  cases d <;> simp at e' ⊢ <;> omega

/-- Storing the rows of a piece settles them and keeps what was settled. -/
theorem stored_good (w : Vec F S8192x256 .f32) (d : Bool) (s : Dev nD) (f : Vec F S8192x256 .f32) {P : S8192x256.Idx → Prop} (hf : Good m w P f) :
    Good m w (fun i => inRows d s i ∨ P i) (stored m w d s f) := fun i hi => by
  by_cases h : inRows d s i
  · obtain ⟨h1, h2⟩ := h
    have hd : decide ((i 0).val % 512 < 256) = d := by
      cases d
      · exact decide_eq_false fun h => by have := h2.2 h; cases this
      · exact decide_eq_true (h2.1 rfl)
    rw [stored_emb m w d s f (show S256x256.Idx from Fin.cons ⟨(i 0).val % 256, Nat.mod_lt _ (by decide)⟩ (Fin.cons (i 1) finZeroElim)) i ?_ rfl]
    · unfold result
      subst hd
      rw [show s = ⟨(i 0).val / 512, h1 ▸ s.isLt⟩ from Fin.ext h1.symm]
    · show (i 0).val = 512 * s.val + top d + (i 0).val % 256
      unfold top
      cases d <;> simp at h2 ⊢ <;> omega
  · rw [stored_off m w d s f i h]
    exact hf i (hi.resolve_left h)

theorem wp_multP (c : Dev nD) (d : Bool) (s : Dev nD) (O : CellTallies nD τ sig Unit) (W : Waits sig Unit) (w f : Vec F S8192x256 .f32)
    (k : Body F) (Kt : PUnit → sProp 𝕄) :
    iprop(flying m c d s ∗ MayWait (c : Thread nD τ) (.dma (stageS d)) () O ∗ owes (c : Thread nD τ) O W
        ∗ (((c : Thread nD τ).loc cc0_stg0_0) ↦{fullShare} w) ∗ (((c : Thread nD τ).loc cc0_stg1_0) ↦{fullShare} f))
      ⊢ iprop(((stAny c d ∗ semVal ((c : Thread nD τ), .dma (stageS d)) 0 ∗ pcPts d c s fullShare.right (gathered m)
              ∗ owes (c : Thread nD τ) O (insert (SemLoc.dma (stageS d), ()) W)
              ∗ (((c : Thread nD τ).loc cc0_stg0_0) ↦{fullShare} w) ∗ (((c : Thread nD τ).loc cc0_stg1_0) ↦{fullShare} stored m w d s f)) -∗ wpB c k Kt)
          -∗ wpB c (multP d (piece d s) (piece_wordExact d s) (rowOff d s) (rowOff_inb d s) k) Kt) := by
  unfold flying
  iintro ⟨⟨%fd, Hf⟩, HM, HO, Hw, Hout⟩ Hk
  unfold multP
  iapply (Transfers.wp_waitLocalO EC 𝒱₀ (c : Thread nD τ) none () (show (stM d).view.dmaCredit = N by cases d <;> rfl) (O := O) (W := W)) $$ [Hf HO HM]
  · isplitl [Hf]; · iexact Hf
    isplitl [HO]; · iexact HO
    iexact HM
  iintro ⟨⟨Hst, Hp⟩, Hz, HO⟩
  iapply (wp_load 𝒱₀ (c : Thread nD τ) none Set.univ (m := stM d) (Finset.subset_univ _)) $$ Hst; iintro Hst
  rw [read_stage d c fd (rows m d s)]
  iapply (wp_load 𝒱₀ (c : Thread nD τ) none Set.univ (m := wM) (Finset.subset_univ _)) $$ Hw; iintro Hw
  rw [show (wM : Memref sig .tc .vmem S8192x256 .f32).view.readAt (Elt F) rW.toLoadRect w = w from Memref.readAt_unit_zero (Elt F) cc0_stg0_0 hz _ _]
  iapply (wp_load 𝒱₀ (c : Thread nD τ) none Set.univ (m := oM) (Finset.subset_univ _)) $$ Hout; iintro Hout
  iapply (wp_store 𝒱₀ (c : Thread nD τ) none Set.univ (m := oM) (r := rO d s) (Mk := Finset.univ) (Finset.subset_univ _)) $$ Hout; iintro Hout
  iapply Hk
  isplitl [Hst]; · unfold stAny; iexists _; iexact Hst
  isplitl [Hz]; · iexact Hz
  isplitl [Hp]; · iexact Hp
  isplitl [HO]; · iexact HO
  isplitl [Hw]; · iexact Hw
  iexact Hout

end Cert.GatherMatmul

end
-- ==== Proof.Hop.lean ====
/-
# One hop, the fifteen of them, and the last product

`Inv c h` is what device `c` holds when it has done `h` hops: the hops' resources, the two pieces that arrived last, the
buffers on chip, and a result whose rows from the pieces seen so far are settled. A hop takes `Inv c h` to
`Inv c (h + 1)`, for every `h`; the epilogue settles the last two blocks.
-/
module

public import proofs.«01_k».proof.Proof.Steps

@[expose] public section

noncomputable section

namespace Cert.GatherMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD) (w : Vec F S8192x256 .f32)

/-- Row `i` is made from a piece that arrived before hop `h`. -/
def seen (h : ℕ) (i : S8192x256.Idx) : Prop := ∃ d j, j < h ∧ inRows d (slot d c j) i

/-- Every row is seen after sixteen pieces of each direction. -/
theorem seen_all (i : S8192x256.Idx) : seen c 16 i := by
  have hi : (i 0).val < 8192 := (i 0).isLt
  obtain ⟨j, hj⟩ := (around (decide ((i 0).val % 512 < 256)) c).surjective (⟨(i 0).val / 512, by show _ < 16; omega⟩ : Dev nD)
  refine ⟨decide ((i 0).val % 512 < 256), j.val, j.isLt, ?_, by simp⟩
  exact (congrArg Fin.val hj).symm

/-- The buffers on chip: the two of the pieces, the columns of `w`, the result so far, and their two semaphores. -/
def chip (f : Vec F S8192x256 .f32) : sProp 𝕄 :=
  iprop(stAny c true ∗ stAny c false ∗ semVal ((c : Thread nD τ), .dma (stageS true)) 0 ∗ semVal ((c : Thread nD τ), .dma (stageS false)) 0
    ∗ (((c : Thread nD τ).loc cc0_stg0_0) ↦{fullShare} w) ∗ (((c : Thread nD τ).loc cc0_stg1_0) ↦{fullShare} f))

/-- What device `c` holds after `h` hops. -/
def Inv (h : ℕ) : sProp 𝕄 :=
  iprop((∃ f, ⌜Good m w (seen c h) f⌝ ∗ chip c w f) ∗ hops c true h ∗ hops c false h
    ∗ pcPts true c (slot true c h) fullShare (gathered m) ∗ pcPts false c (slot false c h) fullShare (gathered m)
    ∗ ∃ W, owes (c : Thread nD τ) (owed c h) W)

omit [FloatOps F] in
/-- Owing the hops from `h` on, the copies on chip may be waited for. -/
theorem mayWait_stage (d : Bool) (h : ℕ) : (levAts L lv : sProp 𝕄) ⊢ MayWait (c : Thread nD τ) (.dma (stageS d)) () (owed c h) :=
  mayWait_owed c _ h (by rw [lv_of_none c (by cases d <;> rfl)]; omega)

theorem good_step {h : ℕ} {f : Vec F S8192x256 .f32} (hf : Good m w (seen c h) f) :
    Good m w (seen c (h + 1)) (stored m w false (slot false c h) (stored m w true (slot true c h) f)) := by
  have := stored_good m w false (slot false c h) _ (stored_good m w true (slot true c h) f hf)
  rintro i ⟨d, j, hj, hi⟩
  refine this i ?_
  rcases Nat.lt_succ_iff_lt_or_eq.1 hj with hj | rfl
  · exact .inr (.inr ⟨d, j, hj, hi⟩)
  · cases d
    · exact .inl hi
    · exact .inr (.inl hi)

/-- Both products of a hop: both copies, then both stores. -/
theorem wp_pair (s s' : Dev nD) (h : ℕ) (f : Vec F S8192x256 .f32) (k : Body F) (Kt : PUnit → sProp 𝕄) :
    iprop(levAts L lv ∗ chip c w f ∗ pcPts true c s fullShare.right (gathered m) ∗ pcPts false c s' fullShare.right (gathered m)
        ∗ ∃ W, owes (c : Thread nD τ) (owed c h) W)
      ⊢ iprop(((chip c w (stored m w false s' (stored m w true s f))
              ∗ pcPts true c s fullShare.right (gathered m) ∗ pcPts false c s' fullShare.right (gathered m) ∗ ∃ W, owes (c : Thread nD τ) (owed c h) W)
            -∗ wpB c k Kt)
          -∗ wpB c (stageP true (piece true s) (piece_wordExact true s) <| stageP false (piece false s') (piece_wordExact false s') <|
              multP true (piece true s) (piece_wordExact true s) (rowOff true s) (rowOff_inb true s) <|
              multP false (piece false s') (piece_wordExact false s') (rowOff false s') (rowOff_inb false s') k) Kt) := by
  unfold chip
  iintro ⟨#Hlev, ⟨HsT, HsF, HzT, HzF, Hw, Ho⟩, HpT, HpF, ⟨%W, HO⟩⟩ Hk
  iapply (wp_stageP m c true s) $$ [HpT HsT HzT]
  · isplitl [HpT]; · iexact HpT
    isplitl [HsT] <;> iassumption
  iintro HfT
  iapply (wp_stageP m c false s') $$ [HpF HsF HzF]
  · isplitl [HpF]; · iexact HpF
    isplitl [HsF] <;> iassumption
  iintro HfF
  iapply (wp_multP m c true s (owed c h) W w f) $$ [HfT HO Hw Ho]
  · isplitl [HfT]; · iexact HfT
    isplitr; · iapply (mayWait_stage c true h); iexact Hlev
    isplitl [HO]; · iexact HO
    isplitl [Hw] <;> iassumption
  iintro ⟨HsT, HzT, HpT, HO, Hw, Ho⟩
  iapply (wp_multP m c false s' (owed c h) _ w (stored m w true s f)) $$ [HfF HO Hw Ho]
  · isplitl [HfF]; · iexact HfF
    isplitr; · iapply (mayWait_stage c false h); iexact Hlev
    isplitl [HO]; · iexact HO
    isplitl [Hw] <;> iassumption
  iintro ⟨HsF, HzF, HpF, HO, Hw, Ho⟩
  iapply Hk
  isplitl [HsT HsF HzT HzF Hw Ho]
  · isplitl [HsT]; · iexact HsT
    isplitl [HsF]; · iexact HsF
    isplitl [HzT]; · iexact HzT
    isplitl [HzF]; · iexact HzF
    isplitl [Hw] <;> iassumption
  isplitl [HpT]; · iexact HpT
  isplitl [HpF]; · iexact HpF
  iexists _; iexact HO

/-- The wait for the piece arriving in hop `h`. -/
theorem wp_wait_recv (d : Bool) (h : Fin 15) (k : Body F) (Kt : PUnit → sProp 𝕄) :
    iprop(records m K ∗ levAts L lv ∗ recvRes c d h ∗ ∃ W, owes (c : Thread nD τ) (owed c (h.val + 1)) W)
      ⊢ iprop(((semVal (xCell d true h c) 0 ∗ pcPts d c (slot d c (h.val + 1)) fullShare (gathered m) ∗ ∃ W, owes (c : Thread nD τ) (owed c (h.val + 1)) W) -∗ wpB c k Kt)
          -∗ wpB c (waitP (recvS d h) (piece d (slot d c (h.val + 1))) (piece_wordExact d _) k) Kt) := by
  unfold recvRes
  iintro ⟨#HR, #Hlev, ⟨Hc, Ha⟩, ⟨%W, HO⟩⟩ Hk
  iapply (wp_wait_x m K c d true h (owed c (h.val + 1)) W _ (piece_wordExact d _) (N_eq d _)) $$ [Hc Ha HO]
  · isplitr; · iexact HR
    isplitr; · iapply (mayWait_owed c _ (h.val + 1) (by rw [lv_recv]; omega)); iexact Hlev
    isplitl [Hc]; · iexact Hc
    isplitl [Ha] <;> iassumption
  iintro ⟨Hz, Hp, HO⟩
  iapply Hk
  isplitl [Hz]; · iexact Hz
  isplitl [Hp]; · iapply (Entails.of_eq (payload_recv m c d h false)); iexact Hp
  iexists _; iexact HO

/-- The wait for the piece sent in hop `h`. -/
theorem wp_wait_sent (d : Bool) (h : Fin 15) (k : Body F) (Kt : PUnit → sProp 𝕄) :
    iprop(records m K ∗ levAts L lv ∗ sentRes c d h ∗ ∃ W, owes (c : Thread nD τ) (owed c (h.val + 1)) W)
      ⊢ iprop(((semVal (xCell d false h c) 0 ∗ ∃ W, owes (c : Thread nD τ) (owed c (h.val + 1)) W) -∗ wpB c k Kt)
          -∗ wpB c (waitP (sendS d h) (piece d (slot d c h.val)) (piece_wordExact d _) k) Kt) := by
  unfold sentRes
  iintro ⟨#HR, #Hlev, ⟨Hc, Ha⟩, ⟨%W, HO⟩⟩ Hk
  iapply (wp_wait_x m K c d false h (owed c (h.val + 1)) W _ (piece_wordExact d _) (N_eq d _)) $$ [Hc Ha HO]
  · isplitr; · iexact HR
    isplitr; · iapply (mayWait_owed c _ (h.val + 1) (by rw [lv_send]; omega)); iexact Hlev
    isplitl [Hc]; · iexact Hc
    isplitl [Ha] <;> iassumption
  iintro ⟨Hz, -, HO⟩
  iapply Hk
  isplitl [Hz]; · iexact Hz
  iexists _; iexact HO

/-- A hop. -/
theorem wp_hop (h : Fin 15) (k : Body F) (Kt : PUnit → sProp 𝕄) :
    iprop(records m K ∗ levAts L lv ∗ Inv m c w h.val ∗ (Inv m c w (h.val + 1) -∗ wpB c k Kt)) ⊢ wpB c (hopN c h k) Kt := by
  unfold Inv hopN hopP
  iintro ⟨#HR, #Hlev, ⟨⟨%f, %hf, Hchip⟩, HhT, HhF, HpT, HpF, ⟨%W, HO⟩⟩, Hk⟩
  ihave HhT := (hops_step c true h) $$ HhT
  icases HhT with ⟨HqT, HhT⟩
  ihave HhF := (hops_step c false h) $$ HhF
  icases HhF with ⟨HqF, HhF⟩
  ihave HO := (Entails.of_eq (congrArg (fun O => (owes (c : Thread nD τ) O W : sProp 𝕄)) (owed_step c h))) $$ HO
  iapply (wp_sendP m K c true h (owed c (h.val + 1) + tallyAt (xCell false true h (onward false c)) () N) W) $$ [HpT HqT HO]
  · isplitr; · iexact HR
    isplitl [HpT]; · iexact HpT
    isplitl [HqT] <;> iassumption
  iintro ⟨HpT, HsT, HrT, HO⟩
  iapply (wp_sendP m K c false h (owed c (h.val + 1)) W) $$ [HpF HqF HO]
  · isplitr; · iexact HR
    isplitl [HpF]; · iexact HpF
    isplitl [HqF] <;> iassumption
  iintro ⟨HpF, HsF, HrF, HO⟩
  iapply (wp_pair m c w (slot true c h.val) (slot false c h.val) (h.val + 1) f) $$ [Hchip HpT HpF HO]
  · isplitr; · iexact Hlev
    isplitl [Hchip]; · iexact Hchip
    isplitl [HpT]; · iexact HpT
    isplitl [HpF]; · iexact HpF
    iexists W; iexact HO
  iintro ⟨Hchip, -, -, HO⟩
  iapply (wp_wait_recv m K c true h) $$ [HrT HO]
  · isplitr; · iexact HR
    isplitr; · iexact Hlev
    isplitl [HrT] <;> iassumption
  iintro ⟨HzrT, HpT, HO⟩
  iapply (wp_wait_recv m K c false h) $$ [HrF HO]
  · isplitr; · iexact HR
    isplitr; · iexact Hlev
    isplitl [HrF] <;> iassumption
  iintro ⟨HzrF, HpF, HO⟩
  iapply (wp_wait_sent m K c true h) $$ [HsT HO]
  · isplitr; · iexact HR
    isplitr; · iexact Hlev
    isplitl [HsT] <;> iassumption
  iintro ⟨HzsT, HO⟩
  iapply (wp_wait_sent m K c false h) $$ [HsF HO]
  · isplitr; · iexact HR
    isplitr; · iexact Hlev
    isplitl [HsF] <;> iassumption
  iintro ⟨HzsF, HO⟩
  iapply Hk
  isplitl [Hchip]
  · iexists _; isplitr; · (ipureintro; exact good_step m c w hf)
    iexact Hchip
  isplitl [HhT HzrT HzsT]
  · iapply HhT; unfold done; isplitl [HzrT] <;> iassumption
  isplitl [HhF HzrF HzsF]
  · iapply HhF; unfold done; isplitl [HzrF] <;> iassumption
  isplitl [HpT]; · iexact HpT
  isplitl [HpF] <;> iassumption

/-- The hops from hop `15 - n` on. -/
theorem wp_hops (k : Body F) (Kt : PUnit → sProp 𝕄) : ∀ (n : ℕ) (hn : n ≤ 15),
    iprop(records m K ∗ levAts L lv ∗ Inv m c w (15 - n) ∗ (Inv m c w 15 -∗ wpB c k Kt)) ⊢ wpB c (hopsFrom c k n hn) Kt
  | 0, _ => by
    iintro ⟨-, -, HI, Hk⟩
    iapply Hk; iexact HI
  | n + 1, hn => by
    have e : (⟨14 - n, by omega⟩ : Fin 15).val + 1 = 15 - n := by show 14 - n + 1 = 15 - n; omega
    have e' : 15 - (n + 1) = (⟨14 - n, by omega⟩ : Fin 15).val := by show 15 - (n + 1) = 14 - n; omega
    have := wp_hop m K c w ⟨14 - n, by omega⟩ (hopsFrom c k n (by omega)) Kt
    rw [e, ← e'] at this
    iintro ⟨#HR, #Hlev, HI, Hk⟩
    iapply this
    isplitr; · iexact HR
    isplitr; · iexact Hlev
    isplitl [HI]; · iexact HI
    iintro HI
    iapply (wp_hops k Kt n)
    isplitr; · iexact HR
    isplitr; · iexact Hlev
    isplitl [HI] <;> iassumption

/-- What device `c` holds at the end of the body. -/
def atEnd : sProp 𝕄 :=
  iprop(chip c w (result m w) ∗ hops c true 15 ∗ hops c false 15 ∗ ∃ W, owes (c : Thread nD τ) 0 W)

theorem wp_last (Kt : PUnit → sProp 𝕄) :
    iprop(levAts L lv ∗ Inv m c w 15 ∗ (atEnd m c w -∗ Kt ⟨⟩)) ⊢ wpB c (lastN c (.ret ⟨⟩)) Kt := by
  unfold Inv atEnd lastN lastP
  iintro ⟨#Hlev, ⟨⟨%f, %hf, Hchip⟩, HhT, HhF, HpT, HpF, HO⟩, Hk⟩
  ihave HpT := (pcPts_halves true c _ _).1 $$ HpT
  icases HpT with ⟨-, HpT⟩
  ihave HpF := (pcPts_halves false c _ _).1 $$ HpF
  icases HpF with ⟨-, HpF⟩
  iapply (wp_pair m c w (slot true c 15) (slot false c 15) 15 f) $$ [Hchip HpT HpF HO]
  · isplitr; · iexact Hlev
    isplitl [Hchip]; · iexact Hchip
    isplitl [HpT]; · iexact HpT
    isplitl [HpF] <;> iassumption
  iintro ⟨Hchip, -, -, HO⟩
  rw [owed_end, show stored m w false (slot false c 15) (stored m w true (slot true c 15) f) = result m w from
    funext fun i => good_step m c w hf i (seen_all c i)]
  unfold wpB
  rw [wp_ret]
  imodintro
  iapply Hk
  isplitl [Hchip]; · iexact Hchip
  isplitl [HhT]; · iexact HhT
  isplitl [HhF] <;> iassumption

end Cert.GatherMatmul

end
-- ==== Proof.Body.lean ====
/-
# The body of one device

The prologue hands the device's own fifteen pieces of each direction to the neighbour that will write them, gets its
neighbours' in exchange at the barrier, and copies the device's own rows of `x` into its slot; the hops and the epilogue
follow (`wp_hops`, `wp_last`). The result is what the pipeline's proof data states: the staged result is `result`, the
semaphores are at zero, and the device's rows of `x` are as they were.
-/
module

public import proofs.«01_k».proof.Proof.Hop

@[expose] public section

noncomputable section

namespace Cert.GatherMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD) (w : Vec F S8192x256 .f32)

/-! ## The gather buffer in pieces -/

/-- Direction `d`'s half of the buffer: the own piece, and the fifteen that will be received. -/
def dirPts (d : Bool) (f : (main_v1_1 : Ref sig .tc).ty.Contents (Elt F)) : sProp 𝕄 :=
  iprop(pcPts d c c fullShare f ∗ bigSep Finset.univ fun j : Fin 15 => pcPts d c (slot d c (j.val + 1)) fullShare f)

omit [FloatOps F] in
theorem dirPts_eq (d : Bool) (f : (main_v1_1 : Ref sig .tc).ty.Contents (Elt F)) :
    (bigSep Finset.univ fun s : Dev nD => (pcPts d c s fullShare f : sProp 𝕄)) = dirPts c d f := by
  rw [bigSep_univ_equiv (around d c), Fin.univ_succ, Finset.cons_eq_insert, BI.bigSep_insert (by simp), BI.bigSep_map]
  unfold dirPts
  have h0 : (around d c) 0 = c := slot_zero d c
  rw [h0]
  rfl

omit [FloatOps F] in
theorem gather_split (f : (main_v1_1 : Ref sig .tc).ty.Contents (Elt F)) :
    (((c : Thread nD τ).loc main_v1_1) ↦{fullShare} f : sProp 𝕄) = iprop(dirPts c false f ∗ dirPts c true f) := by
  have h := pointsTo_biUnion (Ix := Unit) (Val := Elt F) (Name := ℕ) (U := UU) (Lvl := ℕ) (ℓ := (c : Thread nD τ).loc main_v1_1) (q := fullShare) (f := f)
    (Finset.univ : Finset (Bool × Dev nD)) (fun p => (show Finset S16x512x8192.Idx from (piece p.1 p.2).view.set))
    (fun p _ p' _ hne => disjoint_piece hne)
  rw [← dirPts_eq, ← dirPts_eq]
  refine Eq.trans ?_ (h.trans ?_)
  · rw [pieces_cover]
  · rw [bigSep_univ_prod, bigSep_univ_eq_bigSepL [false, true] (by decide) (by decide), bigSepL_cons_cons, bigSepL_singleton]
    rfl

omit [FloatOps F] in
/-- The two own pieces are the own slot. -/
theorem own_slab (f : (main_v1_1 : Ref sig .tc).ty.Contents (Elt F)) :
    ((slab c).view.loc (c : Thread nD τ) ↦[(slab c).view.set]{fullShare} f : sProp 𝕄)
      ⊣⊢ iprop(pcPts true c c fullShare f ∗ pcPts false c c fullShare f) := by
  have h := pointsTo_union (Ix := Unit) (Val := Elt F) (Name := ℕ) (U := UU) (Lvl := ℕ) (ℓ := (c : Thread nD τ).loc main_v1_1) (q := fullShare) (f := f)
    (disjoint_piece (d := true) (d' := false) (s := c) (s' := c) (by simp))
  rw [show ((slab c).view.loc (c : Thread nD τ) ↦[(slab c).view.set]{fullShare} f : sProp 𝕄)
    = (((c : Thread nD τ).loc main_v1_1) ↦[(show Finset S16x512x8192.Idx from (piece true c).view.set ∪ (piece false c).view.set)]{fullShare} f) from
      congrArg (fun S : Finset S16x512x8192.Idx => ((((c : Thread nD τ).loc main_v1_1) ↦[S]{fullShare} f : sProp 𝕄))) (slab_set c)]
  exact h

/-- The own slot written from the device's rows of `x`. -/
theorem own_copied (f : (main_v1_1 : Ref sig .tc).ty.Contents (Elt F)) :
    ((slab c).view.loc (c : Thread nD τ) ↦[(slab c).view.set]{fullShare}
        (slab c).view.write (Elt F) f ((xM : Memref sig .tc .hbm S512x8192 .f32).view.read (Elt F) (m ((c : Thread nD τ).loc main_arg0))) Finset.univ : sProp 𝕄)
      = ((slab c).view.loc (c : Thread nD τ) ↦[(slab c).view.set]{fullShare} gathered m) := by
  refine pointsTo_congr fun i hi => ?_
  obtain ⟨y, rfl⟩ := View.exists_emb_of_mem_set (slab c).view hi
  refine (View.write_emb_of_mem (v := (slab c).view) f _ (Finset.mem_univ y)).trans ?_
  obtain ⟨h0, h1, h2⟩ := slotM_emb ![c.val, 0, 0] (ownOff_inb c) y
  show (show S512x8192.Idx → Elt F .f32 from m ((c : Thread nD τ).loc main_arg0)) y
    = xAt m (((slab c).view.emb y : S16x512x8192.Idx) 0) (((slab c).view.emb y : S16x512x8192.Idx) 1) (((slab c).view.emb y : S16x512x8192.Idx) 2)
  rw [show (((slab c).view.emb y : S16x512x8192.Idx) 0 : Fin 16) = c from Fin.ext h0]
  unfold xAt
  refine congrArg _ (funext fun a => Fin.ext ?_)
  revert a
  refine Fin.forall_fin_succ.2 ⟨?_, Fin.forall_fin_one.2 ?_⟩
  · exact (h1.trans (Nat.zero_add _)).symm
  · exact (h2.trans (Nat.zero_add _)).symm

omit [FloatOps F] in
/-- The barrier's payment to the neighbour that will write, in terms of the device that pays. -/
theorem barPay_pay (d : Bool) (f : (main_v1_1 : Ref sig .tc).ty.Contents (Elt F)) :
    (bigSep Finset.univ fun j : Fin 15 => (pcPts d c (slot d c (j.val + 1)) fullShare f : sProp 𝕄)) ⊢ barPay d (onward (!d) c) := by
  unfold barPay
  refine bigSep_mono fun j _ => ?_
  rw [onward_back, slot_back]
  show (_ : sProp 𝕄) ⊢ _
  iintro H
  iexists f
  iexact H

/-! ## What a device starts with -/

/-- Of one hop, what does not depend on the neighbours' buffers, but for the credits. -/
def pre (d : Bool) (j : Fin 15) : sProp 𝕄 :=
  iprop(dutyTok ER (xCell d true j (onward d c)) 0 false ∗ dutyTok ER (xCell d false j c) 0 false ∗ atPos ER (xCell d false j c) 0 ∅ 0
    ∗ atPos ER (xCell d true j c) 0 ∅ 0)

/-- The device's own ghost state and its copy semaphores. -/
def mine : sProp 𝕄 :=
  iprop(atPos ER (barCell c) 0 ∅ 0 ∗ dutyTok ER (barCell (onward false c)) 0 true ∗ dutyTok ER (barCell (onward true c)) 0 false
    ∗ (semVal ((c : Thread nD τ), .dma (copyS 0)) 0 ∗ semVal ((c : Thread nD τ), .dma (copyS 1)) 0 ∗ semVal ((c : Thread nD τ), .dma (copyS 2)) 0)
    ∗ (bigSep Finset.univ fun j : Fin 15 => pre c true j) ∗ bigSep Finset.univ fun j : Fin 15 => pre c false j)

/-- The credits it waits with. -/
def credits : sProp 𝕄 :=
  iprop(cred (tallyAt (barCell c) () 2) ∗ (bigSep Finset.univ fun j : Fin 15 => cred (tallyAt (xCell true true j c) () N))
    ∗ bigSep Finset.univ fun j : Fin 15 => cred (tallyAt (xCell false true j c) () N))

omit [FloatOps F] in
theorem hops_intro (d : Bool) :
    iprop((bigSep Finset.univ fun j : Fin 15 => pre c d j) ∗ (bigSep Finset.univ fun j : Fin 15 => cred (tallyAt (xCell d true j c) () N)) ∗ barPay d c)
      ⊢ (hops c d 0 : sProp 𝕄) := by
  unfold barPay hops
  rw [← bigSep_sep', ← bigSep_sep']
  refine bigSep_mono fun j _ => ?_
  rw [if_pos (Nat.zero_le _)]
  unfold pre pend recvRes
  show (_ : sProp 𝕄) ⊢ _
  iintro ⟨⟨H1, H2, H3, H4⟩, H5, H6⟩
  isplitl [H6]; · iexact H6
  isplitl [H1]; · iexact H1
  isplitl [H2]; · iexact H2
  isplitl [H3]; · iexact H3
  isplitl [H5] <;> iassumption

/-! ## The body -/

/-- What the body leaves beside the staged result. -/
def left : sProp 𝕄 :=
  iprop((((c : Thread nD τ).loc main_arg0) ↦{fullShare} m ((c : Thread nD τ).loc main_arg0))
    ∗ semVal (barCell c) 0
    ∗ (semVal ((c : Thread nD τ), .dma (copyS 0)) 0 ∗ semVal ((c : Thread nD τ), .dma (copyS 1)) 0 ∗ semVal ((c : Thread nD τ), .dma (copyS 2)) 0)
    ∗ hops c true 15 ∗ hops c false 15 ∗ stAny c true ∗ stAny c false)

set_option maxHeartbeats 1000000 in
theorem wp_body (f : Vec F S8192x256 .f32) (W : Waits sig Unit) (Kt : PUnit → sProp 𝕄) :
    iprop(records m K ∗ mine c ∗ credits c ∗ levAts L lv
        ∗ (((c : Thread nD τ).loc main_arg0) ↦{fullShare} m ((c : Thread nD τ).loc main_arg0))
        ∗ (((c : Thread nD τ).loc main_v1_1) ↦{fullShare} m ((c : Thread nD τ).loc main_v1_1))
        ∗ stAny c true ∗ stAny c false ∗ owes (c : Thread nD τ) (owed₀ c) W
        ∗ (((c : Thread nD τ).loc cc0_stg0_0) ↦{fullShare} w) ∗ (((c : Thread nD τ).loc cc0_stg1_0) ↦{fullShare} f)
        ∗ ((left m c ∗ (∃ W, owes (c : Thread nD τ) 0 W) ∗ (((c : Thread nD τ).loc cc0_stg0_0) ↦{fullShare} w)
            ∗ (((c : Thread nD τ).loc cc0_stg1_0) ↦{fullShare} result m w)) -∗ Kt ⟨⟩))
      ⊢ wpB c (bodyN c) Kt := by
  unfold mine credits bodyN startN startP
  rw [gather_split c (m ((c : Thread nD τ).loc main_v1_1))]
  unfold dirPts
  iintro ⟨#HR, ⟨Hab, HtL, HtR, ⟨Hz0, Hz1, Hz2⟩, HpreT, HpreF⟩, ⟨HcB, HcT, HcF⟩, #Hlev, Hx, ⟨⟨HoF, HgF⟩, ⟨HoT, HgT⟩⟩, HsT, HsF, HO, Hw, Hout, Hk⟩
  ihave #HbL := (records_bar m K (onward false c)) $$ HR
  ihave #HbR := (records_bar m K (onward true c)) $$ HR
  ihave #HbC := (records_bar m K c) $$ HR
  icases HbL with ⟨HIL, HrL⟩
  icases HbR with ⟨HIR, HrR⟩
  icases HbC with ⟨HIC, -⟩
  -- both signals: each hands a neighbour the pieces it will write
  unfold owed₀
  iapply (Rounds.wp_signal 𝒱₀ ER (Rd m) (c : Thread nD τ) none (dst := (onward false c : Thread nD τ)) (κ := K (onward false c, .inr ()))
      (d := true) (by rw [duties_bar]; exact Finset.mem_univ _) ((amount_bar m (onward false c) true).trans (by decide)) () (owed₁ c) rfl)
    $$ [HO HtL HgT]
  · isplitr; · iexact HIL
    isplitl [HO]; · iexact HO
    isplitl [HtL]; · iexact HtL
    isplitl [HgT]
    · rw [payload_bar]; iapply (barPay_pay c true _); iexact HgT
    iexact HrL
  iintro HO
  unfold owed₁
  iapply (Rounds.wp_signal 𝒱₀ ER (Rd m) (c : Thread nD τ) none (dst := (onward true c : Thread nD τ)) (κ := K (onward true c, .inr ()))
      (d := false) (by rw [duties_bar]; exact Finset.mem_univ _) ((amount_bar m (onward true c) false).trans (by decide)) () (owed c 0) rfl)
    $$ [HO HtR HgF]
  · isplitr; · iexact HIR
    isplitl [HO]; · iexact HO
    isplitl [HtR]; · iexact HtR
    isplitl [HgF]
    · rw [payload_bar]; iapply (barPay_pay c false _); iexact HgF
    iexact HrR
  iintro HO
  -- the wait: the neighbours' pieces
  iapply (Rounds.wp_wait_rest_token 𝒱₀ ER (Rd m) (c : Thread nD τ) none (κ := K (c, .inr ()))
      (wpE_semWait_eq 𝒱₀ (c : Thread nD τ) none Set.univ) (Set.mem_univ _) () (O := owed c 0) (W := W) (R := 0) (m := 0) (T := ∅)
      (by rw [expect_bar]; decide)) $$ [HcB HO Hab]
  · isplitr; · iexact HIC
    isplitl [HcB]; · iexact HcB
    isplitl [HO]; · iexact HO
    isplitr
    · iapply (mayWait_owed c (.reg barS) 0 (by rw [lv_bar]; decide)); iexact Hlev
    iexact Hab
  iintro ⟨HO, Hab, -, Hpay⟩
  ihave Hpay := (Entails.of_eq (rest_bar m c)) $$ Hpay
  icases Hpay with ⟨HbF, HbT⟩
  imod (Rounds.cell_close ER (Rd m) (Set.mem_univ (K (c, .inr ()))) (fun h => h) (R := 0 + 1) (duties_later m (barCell c))) $$ [Hab] with HzB
  · isplitr; · iexact HIC
    iexact Hab
  -- the own rows into their slot
  ihave Hsl := (own_slab c _).2 $$ [HoT HoF]
  · isplitl [HoT] <;> iassumption
  iapply (Transfers.wp_dmaLocal EC 𝒱₀ (c : Thread nD τ) none (src := xM) (dst := slab c) (q := fullShare) (Sd := (slab c).view.set)
      () (slab c).view.dmaCredit rfl (View.dmaCredit_pos _ (by decide)) (Finset.Subset.refl _)) $$ [Hx Hsl Hz0]
  · isplitl [Hx]; · rw [View.set_whole]; iexact Hx
    isplitl [Hsl]; · iexact Hsl
    iexact Hz0
  iintro Hf
  iapply (Transfers.wp_waitLocalO EC 𝒱₀ (c : Thread nD τ) none () rfl (O := owed c 0)) $$ [Hf HO]
  · isplitl [Hf]; · iexact Hf
    isplitl [HO]; · iexact HO
    iapply (mayWait_owed c _ 0 (by rw [lv_of_none c rfl]; decide)); iexact Hlev
  iintro ⟨⟨Hsl, Hx⟩, Hz0, HO⟩
  ihave Hsl := (Entails.of_eq (own_copied m c _)) $$ Hsl
  ihave Hsl := (own_slab c _).1 $$ Hsl
  icases Hsl with ⟨HoT, HoF⟩
  -- the hops
  iapply (wp_hops m K c w (lastN c (.ret ⟨⟩)) Kt 15 le_rfl)
  isplitr; · iexact HR
  isplitr; · iexact Hlev
  isplitl [HpreT HpreF HcT HcF HbT HbF HoT HoF HsT HsF Hz1 Hz2 Hw Hout HO]
  · unfold Inv
    isplitl [HsT HsF Hz1 Hz2 Hw Hout]
    · iexists f
      isplitr; · (ipureintro; rintro i ⟨d, j, hj, -⟩; exact absurd hj (Nat.not_lt_zero _))
      unfold chip
      isplitl [HsT]; · iexact HsT
      isplitl [HsF]; · iexact HsF
      isplitl [Hz1]; · iexact Hz1
      isplitl [Hz2]; · iexact Hz2
      isplitl [Hw] <;> iassumption
    isplitl [HpreT HcT HbT]
    · iapply (hops_intro c true)
      isplitl [HpreT]; · iexact HpreT
      isplitl [HcT] <;> iassumption
    isplitl [HpreF HcF HbF]
    · iapply (hops_intro c false)
      isplitl [HpreF]; · iexact HpreF
      isplitl [HcF] <;> iassumption
    rw [slot_zero, slot_zero]
    isplitl [HoT]; · iexact HoT
    isplitl [HoF]; · iexact HoF
    iexists _; iexact HO
  iintro HI
  iapply (wp_last m c w Kt)
  isplitr; · iexact Hlev
  isplitl [HI]; · iexact HI
  unfold atEnd chip left
  iintro ⟨⟨HsT, HsF, Hz1, Hz2, Hw, Hout⟩, HhT, HhF, HO⟩
  iapply Hk
  isplitl [HsT HsF Hz0 Hz1 Hz2 HzB HhT HhF Hx]
  · isplitl [Hx]; · rw [View.set_whole]; iexact Hx
    isplitl [HzB]; · iexact HzB
    isplitl [Hz0 Hz1 Hz2]
    · isplitl [Hz0]; · iexact Hz0
      isplitl [Hz1]; · iexact Hz1
      iexact Hz2
    isplitl [HhT]; · iexact HhT
    isplitl [HhF]; · iexact HhF
    isplitl [HsT]; · iexact HsT
    iexact HsF
  isplitl [HO]; · iexact HO
  isplitl [Hw] <;> iassumption

end Cert.GatherMatmul

end
-- ==== Proof.Data.lean ====
/-
# The pipeline's proof data, and its body obligation

The kernel has no grid: one point, at which `w` is staged, the body runs, and the staged result is written back. The
invariant before the point is what the launch deals a device; after it, what the body leaves.
-/
module

public import proofs.«01_k».proof.Proof.Body

@[expose] public section

noncomputable section

namespace Cert.GatherMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The device's columns of `w`, as the pipeline stages them. -/
def wAt : (cc0_stg0_0 : Ref sig .tc).ty.Contents (Elt F) := (win0_0.blk (0 : Fin 1)).view.read (Elt F) ((s₀ m ρ).mem ((c : Thread nD τ).loc main_arg1))

/-- What the launch routes to a device, but for its scratch. -/
def start : sProp 𝕄 :=
  iprop((∃ K, records m K ∗ mine c) ∗ credits c ∗ levAts L lv
    ∗ (((c : Thread nD τ).loc main_arg0) ↦{fullShare} m ((c : Thread nD τ).loc main_arg0))
    ∗ (((c : Thread nD τ).loc main_v1_1) ↦{fullShare} m ((c : Thread nD τ).loc main_v1_1)))

/-- The invariant before the point. -/
def before : sProp 𝕄 := iprop(start m c ∗ stAny c true ∗ stAny c false)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wAt m ρ c
    | ⟨1, _⟩ => result m (wAt m ρ c)
  Φ t := match t with
    | ⟨0, _⟩ => before m c
    | ⟨_ + 1, _⟩ => left m c
  q _ := fullShare
  owed t := match t with
    | ⟨0, _⟩ => owed₀ c
    | ⟨_ + 1, _⟩ => 0

omit [FloatOps F] in
theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer with contents `X`. -/
abbrev staged (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre : sProp 𝕄 :=
  iprop(before m c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))

def bodyPost : sProp 𝕄 :=
  iprop(left m c ∗ (dats m ρ 0 c).owesAt () t0_0.succ ∗ staged c cc0_stg0_0 (wAt m ρ c) ∗ staged c cc0_stg1_0 (result m (wAt m ρ c)))

theorem sound_body : bodyPre m ρ c ⊢ wpB c theBody fun _ => bodyPost m ρ c := by
  rw [body_eq_N]
  unfold bodyPre before start Dat.owesAt Pipeline.owesWithin
  iintro ⟨⟨⟨⟨%K, HR, Hm⟩, Hc, Hl, Hx, Hg⟩, HsT, HsF⟩, ⟨%W, %hW, HO⟩, ⟨%d0, %g0, %hg0, Hw⟩, ⟨%d1, %g1, %hg1, Hout⟩⟩
  have hw : g0 = wAt m ρ c := by rw [hg0]; unfold Dat.before; rw [if_pos (fetch0_0 t0_0)]; rfl
  subst hw
  rw [show (dats m ρ 0 c).owed t0_0.castSucc = owed₀ c from rfl]
  unfold wpB
  rw [wp_deviceId]
  iapply (wp_body m K c (wAt m ρ c) g1 W)
  isplitl [HR]; · iexact HR
  isplitl [Hm]; · iexact Hm
  isplitl [Hc]; · iexact Hc
  isplitl [Hl]; · iexact Hl
  isplitl [Hx]; · iexact Hx
  isplitl [Hg]; · iexact Hg
  isplitl [HsT]; · iexact HsT
  isplitl [HsF]; · iexact HsF
  isplitl [HO]; · iexact HO
  isplitl [Hw]; · iexact Hw
  isplitl [Hout]; · iexact Hout
  iintro ⟨Hleft, ⟨%W', HO⟩, Hw, Hout⟩
  unfold bodyPost Dat.owesAt Pipeline.owesWithin
  rw [show (dats m ρ 0 c).owed t0_0.succ = 0 from rfl]
  isplitl [Hleft]; · iexact Hleft
  isplitl [HO]
  · iexists W'
    isplitr; · ipureintro; exact fun _ _ => Or.inl trivial
    iexact HO
  isplitl [Hw]
  · iexists _; isplitr; · (ipureintro; rfl)
    iexact Hw
  iexists _; isplitr; · (ipureintro; rfl)
  iexact Hout

set_option maxRecDepth 16000 in
theorem body_obligation : BodyObligation (dats (F := F) m ρ 0 c) (defs₀ (F := F)) 𝒱₀ () Set.univ := fun t => by
  rw [fin_N0 t]
  rw [bigSep_W0, bigSep_W0]
  simp only [owns_whole]
  show bodyPre m ρ c ⊢ wp frame (wpE (defs₀ (F := F)) 𝒱₀ (c : Thread nD τ) none) Set.univ theBody (fun _ => bodyPost m ρ c)
  exact sound_body m ρ c

end Cert.GatherMatmul

end
-- ==== Proof.Launch.lean ====
/-
# The launch

Every device's transfer and barrier semaphores become the cells of the schedule at once, each device is dealt the tokens
of the duties it pays — its neighbours' barrier duties and receive duties, its own send duties — and the credit of what
the others owe it. The run of the whole mesh follows, for any float values.
-/
module

public import proofs.«01_k».proof.Proof.Data
public import Idealize.ShloMosaic.Lib.Quiescent

@[expose] public section

noncomputable section

namespace Cert.GatherMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The kernel's own semaphores -/

abbrev XI : Type := Bool × Bool × Fin 15

/-- The transfer semaphores and the three of the copies. -/
def osem : XI ⊕ Fin 3 → SemLoc sig
  | .inl (d, r, h) => .dma (xferS d r h)
  | .inr k => .dma (copyS k)

theorem copyS_val (k : Fin 3) : (copyS k : Fin sig.nDmaSem).val = 62 + k.val := by show 2 + (60 + k.val) = _; omega

theorem role_copy (k : Fin 3) : role (.dma (copyS k)) = none := if_neg (by rw [copyS_val]; omega)

theorem osem_inj : Function.Injective osem := by
  rintro (⟨d, r, h⟩ | k) (⟨d', r', h'⟩ | k') e
  · injection e with e
    obtain ⟨rfl, rfl, rfl⟩ := xferS_inj e
    rfl
  · have := (role_xfer d r h).symm.trans ((congrArg role e).trans (role_copy k'))
    cases this
  · have := (role_copy k).symm.trans ((congrArg role e).trans (role_xfer d' r' h'))
    cases this
  · injection e with e
    have := congrArg Fin.val e
    rw [copyS_val, copyS_val] at this
    exact congrArg Sum.inr (Fin.ext (by omega))

theorem ownSemFacts : Pipeline.OwnSemFacts cfg0.spec osem where
  isScoped := by decide
  inj := osem_inj
  disj := by
    rintro (⟨d, r, h⟩ | k) w s e
    · have := (role_xfer d r h).symm.trans (congrArg role e)
      revert this
      fin_cases w <;> fin_cases s <;> exact fun h => by cases h
    · injection e with e
      have := congrArg Fin.val e
      rw [copyS_val] at this
      revert this
      fin_cases w <;> fin_cases s <;> exact fun h => by simp at h <;> omega

/-! ## The ghost state at the launch -/

theorem cellAt_inj : Function.Injective cellAt := by
  rintro ⟨c, (⟨d, r, h⟩ | _)⟩ ⟨c', (⟨d', r', h'⟩ | _)⟩ e
  · obtain ⟨rfl, rfl, rfl, rfl⟩ := xCell_inj e
    rfl
  · exact absurd (congrArg Prod.snd e) (xfer_ne_bar _)
  · exact absurd (congrArg Prod.snd e).symm (xfer_ne_bar _)
  · have : c = c' := congrArg (fun g : GSem nD τ sig => g.1.1) e
    subst this; rfl

/-- A cell's duty: a transfer's one, a barrier's two. -/
def tokOf : Dev nD × (XI ⊕ Bool) → GSem nD τ sig × ℕ × Bool
  | (c, .inl (d, r, h)) => (xCell d r h c, 0, false)
  | (c, .inr b) => (barCell c, 0, b)

theorem tokOf_inj : Function.Injective tokOf := by
  rintro ⟨c, (⟨d, r, h⟩ | b)⟩ ⟨c', (⟨d', r', h'⟩ | b')⟩ e
  · obtain ⟨rfl, rfl, rfl, rfl⟩ := xCell_inj (congrArg Prod.fst e)
    rfl
  · exact absurd (congrArg (fun x : GSem nD τ sig × ℕ × Bool => x.1.2) e) (xfer_ne_bar _)
  · exact absurd (congrArg (fun x : GSem nD τ sig × ℕ × Bool => x.1.2) e).symm (xfer_ne_bar _)
  · have h1 : c = c' := congrArg (fun x : GSem nD τ sig × ℕ × Bool => x.1.1.1) e
    have h2 : b = b' := congrArg (fun x : GSem nD τ sig × ℕ × Bool => x.2.2) e
    subst h1 h2; rfl

def ringCells : Finset (GSem nD τ sig) := Finset.univ.map ⟨cellAt, cellAt_inj⟩
def ringToks : Finset (GSem nD τ sig × ℕ × Bool) := Finset.univ.map ⟨tokOf, tokOf_inj⟩

/-- The launch element: the pipeline's, and the ring's. -/
def u₀ : UU := (initOf (Pipeline.cells cfgs cellOf_inj) (Pipeline.launchToks cfgs cellOf_inj), (initOf ringCells ringToks, 1))

/-- A device's own cells' duties. -/
def toks : sProp 𝕄 := bigSep Finset.univ fun t : XI ⊕ Bool => dutyTok ER (tokOf (c, t)).1 (tokOf (c, t)).2.1 (tokOf (c, t)).2.2

/-- What the launch element deals a device. -/
def dealt : sProp 𝕄 :=
  iprop((bigSep Finset.univ fun k : CI => roundState ER (Rd m) (cellAt (c, k)) 0)
    ∗ (bigSep Finset.univ fun k : CI => atPos ER (cellAt (c, k)) 0 ∅ 0) ∗ (bigSep Finset.univ fun k : CI => reached ER (cellAt (c, k)) 0) ∗ toks c)

/-- What the global step makes of it. -/
def ready : sProp 𝕄 := iprop(∃ K, records m K ∗ mine c)

omit [FloatOps F] in
theorem own_ring : BI.own ((embR : Emb (UB × Counters) 𝕄) (initOf ringCells ringToks, 1))
    ⊢ (iprop(BI.own (ER (initOf ringCells ringToks)) ∗ BI.own (((Emb.inr : Emb Counters (UB × Counters)).trans embR) 1)) : sProp 𝕄) := by
  unfold ER; exact own_pair_emb (embR : Emb (UB × Counters) 𝕄) _ _

omit [FloatOps F] in
theorem fund_ring : BI.own (ER (initOf ringCells ringToks)) ⊢ (|==> bigSep Finset.univ (dealt m) : sProp 𝕄) := by
  have hX (Φ : GSem nD τ sig → sProp 𝕄) : bigSep ringCells Φ = bigSep Finset.univ fun c : Dev nD => bigSep Finset.univ fun k : CI => Φ (cellAt (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt
  rw [bigSep_sep', bigSep_sep', bigSep_sep']
  isplitl [Hst]; · iexact Hst
  isplitl [Hat]; · iexact Hat
  isplitl [Hr]; · iexact Hr
  iexact Htok

/-! ## The semaphores become cells -/

omit [FloatOps F] in
/-- The barrier semaphore is the one unscoped semaphore. -/
theorem unscopedSems0_eq : (unscopedSems0 c : sProp 𝕄) = semVal (barCell c) 0 := by
  unfold unscopedSems0; rw [bigSep_eq_bigSepL_of_eq [SemLoc.reg barS] (by decide) (by decide)]; rfl

def copies : sProp 𝕄 :=
  iprop(semVal ((c : Thread nD τ), .dma (copyS 0)) 0 ∗ semVal ((c : Thread nD τ), .dma (copyS 1)) 0 ∗ semVal ((c : Thread nD τ), .dma (copyS 2)) 0)

omit [FloatOps F] in
theorem ownSems0_eq : (Pipeline.ownSems0 (Ix := Unit) (Name := ℕ) (U := UU) (Lvl := ℕ) (Val := Elt F) (τ := τ) osem c : sProp 𝕄)
    = iprop((bigSep Finset.univ fun x : XI => semVal (cellAt (c, .inl x)) 0) ∗ copies c) := by
  unfold Pipeline.ownSems0 copies
  rw [bigSep_univ_sum, bigSep_univ_eq_bigSepL [(0 : Fin 3), 1, 2] (by decide) (by decide)]
  rfl

omit [FloatOps F] in
/-- A family over a device's cells. -/
theorem bigSep_CI (Φ : CI → sProp 𝕄) : bigSep Finset.univ Φ = iprop((bigSep Finset.univ fun x : XI => Φ (.inl x)) ∗ Φ (.inr ())) := by
  rw [bigSep_univ_sum, bigSep_univ_eq_bigSepL [()] (by decide) (by decide), bigSepL_singleton]; rfl

omit [FloatOps F] in
theorem core_alloc :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : CI => iprop(∃ κ : ℕ, cellInv ER (Rd m) κ (cellAt (c, k))))
          ∗ (bigSep Finset.univ fun k : CI => reached ER (cellAt (c, k)) 0)
          ∗ (bigSep Finset.univ fun k : CI => atPos ER (cellAt (c, k)) 0 ∅ 0) ∗ toks c ∗ copies c) := by
  unfold dealt
  rw [ownSems0_eq, unscopedSems0_eq]
  iintro ⟨⟨Hx, Hc⟩, Hb, Hst, Hat, Hr, Htok⟩
  imod (show iprop(((bigSep Finset.univ fun x : XI => semVal (cellAt (c, .inl x)) 0) ∗ semVal (barCell c) 0)
        ∗ bigSep Finset.univ fun k : CI => roundState ER (Rd m) (cellAt (c, k)) 0)
      ⊢ (|={Set.univ}=> bigSep Finset.univ fun k : CI => iprop(∃ κ : ℕ, cellInv ER (Rd m) κ (cellAt (c, k))) : sProp 𝕄) from by
        have hv : (iprop((bigSep Finset.univ fun x : XI => semVal (cellAt (c, .inl x)) 0) ∗ semVal (barCell c) 0) : sProp 𝕄)
            = bigSep Finset.univ fun k : CI => semVal (cellAt (c, k)) 0 := (bigSep_CI fun k : CI => semVal (cellAt (c, k)) 0).symm
        rw [hv, ← bigSep_sep']
        exact (bigSep_mono fun k _ => (Rounds.body_intro ER (Rd m) (cellAt (c, k))).trans inv_alloc).trans (bigSep_fupd _ _)) $$ [Hx Hb Hst] with Hinv
  · isplitl [Hx Hb]
    · isplitl [Hx] <;> iassumption
    iexact Hst
  imodintro
  isplitl [Hinv]; · iexact Hinv
  isplitl [Hr]; · iexact Hr
  isplitl [Hat]; · iexact Hat
  isplitl [Htok] <;> iassumption

/-! ## The tokens dealt round the ring -/

omit [FloatOps F] in
/-- A family over the transfer semaphores, by direction and end. -/
theorem bigSep_XI (Φ : XI → sProp 𝕄) : bigSep Finset.univ Φ
    = iprop(((bigSep Finset.univ fun j => Φ (false, false, j)) ∗ bigSep Finset.univ fun j => Φ (false, true, j))
        ∗ (bigSep Finset.univ fun j => Φ (true, false, j)) ∗ bigSep Finset.univ fun j => Φ (true, true, j)) := by
  have hb (Ψ : Bool → sProp 𝕄) : bigSep Finset.univ Ψ = iprop(Ψ false ∗ Ψ true) := by
    rw [bigSep_univ_eq_bigSepL [false, true] (by decide) (by decide), bigSepL_cons_cons, bigSepL_singleton]; rfl
  rw [bigSep_univ_prod, hb, bigSep_univ_prod, hb, bigSep_univ_prod, hb]

/-- The duties a device pays. -/
def pays : sProp 𝕄 :=
  iprop((((bigSep Finset.univ fun j => dutyTok ER (xCell false false j c) 0 false) ∗ bigSep Finset.univ fun j => dutyTok ER (xCell false true j (onward false c)) 0 false)
      ∗ (bigSep Finset.univ fun j => dutyTok ER (xCell true false j c) 0 false) ∗ bigSep Finset.univ fun j => dutyTok ER (xCell true true j (onward true c)) 0 false)
    ∗ dutyTok ER (barCell (onward true c)) 0 false ∗ dutyTok ER (barCell (onward false c)) 0 true)

omit [FloatOps F] in
theorem toks_around : (bigSep Finset.univ fun c : Dev nD => (toks c : sProp 𝕄)) = bigSep Finset.univ fun c : Dev nD => pays c := by
  have ht (c : Dev nD) : (toks c : sProp 𝕄)
      = iprop((((bigSep Finset.univ fun j => dutyTok ER (xCell false false j c) 0 false) ∗ bigSep Finset.univ fun j => dutyTok ER (xCell false true j c) 0 false)
          ∗ (bigSep Finset.univ fun j => dutyTok ER (xCell true false j c) 0 false) ∗ bigSep Finset.univ fun j => dutyTok ER (xCell true true j c) 0 false)
        ∗ dutyTok ER (barCell c) 0 false ∗ dutyTok ER (barCell c) 0 true) := by
    unfold toks
    rw [bigSep_univ_sum, bigSep_XI, bigSep_univ_eq_bigSepL [false, true] (by decide) (by decide), bigSepL_cons_cons, bigSepL_singleton]
    rfl
  rw [bigSep_congr fun c _ => ht c]
  unfold pays
  rw [bigSep_sep', bigSep_sep', bigSep_sep', bigSep_sep', bigSep_sep', bigSep_sep', bigSep_sep', bigSep_sep', bigSep_sep', bigSep_sep',
    bigSep_univ_equiv (ring false) (fun c : Dev nD => (bigSep Finset.univ fun j => (dutyTok ER (xCell false true j c) 0 false : sProp 𝕄))),
    bigSep_univ_equiv (ring true) (fun c : Dev nD => (bigSep Finset.univ fun j => (dutyTok ER (xCell true true j c) 0 false : sProp 𝕄))),
    bigSep_univ_equiv (ring true) (fun c : Dev nD => (dutyTok ER (barCell c) 0 false : sProp 𝕄)),
    bigSep_univ_equiv (ring false) (fun c : Dev nD => (dutyTok ER (barCell c) 0 true : sProp 𝕄))]
  rfl

omit [FloatOps F] in
/-- A device's positions, its duties to pay and its copy semaphores are what it starts with. -/
theorem mine_intro : iprop((bigSep Finset.univ fun k : CI => atPos ER (cellAt (c, k)) 0 ∅ 0) ∗ pays c ∗ copies c) ⊢ (mine c : sProp 𝕄) := by
  unfold pays copies mine pre
  rw [bigSep_CI, bigSep_XI, bigSep_sep', bigSep_sep', bigSep_sep', bigSep_sep', bigSep_sep', bigSep_sep']
  iintro ⟨⟨⟨⟨A00, A01⟩, A10, A11⟩, AB⟩, ⟨⟨⟨T00, T01⟩, T10, T11⟩, TB0, TB1⟩, HC⟩
  isplitl [AB]; · iexact AB
  isplitl [TB1]; · iexact TB1
  isplitl [TB0]; · iexact TB0
  isplitl [HC]; · iexact HC
  isplitl [A10 A11 T10 T11]
  · isplitl [T11]; · iexact T11
    isplitl [T10]; · iexact T10
    isplitl [A10]; · iexact A10
    iexact A11
  isplitl [T01]; · iexact T01
  isplitl [T00]; · iexact T00
  isplitl [A00]; · iexact A00
  iexact A01

omit [FloatOps F] in
theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
theorem regroup :
    (bigSep Finset.univ fun c : Dev nD => iprop((bigSep Finset.univ fun k : CI => iprop(∃ κ : ℕ, cellInv ER (Rd m) κ (cellAt (c, k))))
          ∗ (bigSep Finset.univ fun k : CI => reached ER (cellAt (c, k)) 0)
          ∗ (bigSep Finset.univ fun k : CI => atPos ER (cellAt (c, k)) 0 ∅ 0) ∗ toks c ∗ copies c) : sProp 𝕄)
      ⊢ bigSep Finset.univ (ready m) := by
  rw [bigSep_sep', bigSep_sep', bigSep_sep', bigSep_sep', ← bigSep_univ_prod (fun ck : Dev nD × CI => iprop(∃ κ : ℕ, cellInv ER (Rd m) κ (cellAt ck))),
    ← bigSep_univ_prod (fun ck : Dev nD × CI => (reached ER (cellAt ck) 0 : sProp 𝕄)), toks_around]
  iintro ⟨HI, #HR, Hat, Htok, Hc⟩
  ihave HK := (BI.bigSep_exists_pi Finset.univ (fun (ck : Dev nD × CI) (κ : ℕ) => (cellInv ER (Rd m) κ (cellAt ck) : sProp 𝕄))) $$ HI
  icases HK with ⟨%K, #HI⟩
  iapply (with_records (R := records m K) (Φ := fun c => mine c) fun c => show _ ⊢ ready m c from by
    unfold ready
    iintro ⟨H1, H2⟩
    iexists K
    isplitl [H1] <;> iassumption)
  isplitr
  · unfold records; rw [bigSep_sep']
    isplitl; · iexact HI
    iexact HR
  · iapply ((Entails.of_eq ((bigSep_sep' _ _ _).trans (congrArg _ (bigSep_sep' _ _ _))).symm).trans (bigSep_mono fun c _ => mine_intro c))
    isplitl [Hat]; · iexact Hat
    isplitl [Htok] <;> iassumption

omit [FloatOps F] in
/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => core_alloc m c).trans (bigSep_fupd _ _)).trans (BI.fupd_mono (regroup m))

/-! ## The launch credit -/

theorem barCell_iff {a b : Dev nD} : barCell a = barCell b ↔ a = b :=
  ⟨fun h => congrArg (fun g : GSem nD τ sig => g.1.1) h, fun h => h ▸ rfl⟩

theorem onward_iff (d : Bool) {a b : Dev nD} : onward d a = b ↔ a = onward (!d) b :=
  ⟨fun h => by rw [← h]; exact ((ring d).left_inv a).symm, fun h => by rw [h]; exact onward_back d b⟩

theorem owed_recv (d : Bool) (j : Fin 15) (e : Dev nD) : owed₀ e (xCell d true j c) () = if e = onward (!d) c then N else 0 := by
  have hs : owed e 0 (xCell d true j c) () = if e = onward (!d) c then N else 0 := by
    unfold owed
    rw [Finset.sum_apply, Finsupp.finset_sum_apply, Finset.sum_eq_single j ?_ (fun h => absurd (Finset.mem_univ j) h)]
    · rw [if_pos (Nat.zero_le _), Pi.add_apply, Finsupp.add_apply, tallyAt_apply, tallyAt_apply]
      have hc (d' : Bool) : (xCell d true j c = xCell d' true j (onward d' e) ∧ () = ()) ↔ (d = d' ∧ e = onward (!d') c) :=
        ⟨fun h => by obtain ⟨h1, -, -, h2⟩ := xCell_inj h.1; exact ⟨h1, (onward_iff d').1 h2.symm⟩,
          fun h => by obtain ⟨rfl, h2⟩ := h; exact ⟨by rw [(onward_iff d).2 h2], rfl⟩⟩
      rw [if_congr (hc false) rfl rfl, if_congr (hc true) rfl rfl]
      cases d <;> simp
    · intro j' _ hj
      rw [if_pos (Nat.zero_le _), Pi.add_apply, Finsupp.add_apply, tallyAt_apply, tallyAt_apply,
        if_neg fun h => hj (xCell_inj h.1).2.2.1.symm, if_neg fun h => hj (xCell_inj h.1).2.2.1.symm, Nat.add_zero]
  unfold owed₀ owed₁
  rw [Pi.add_apply, Finsupp.add_apply, Pi.add_apply, Finsupp.add_apply, hs,
    tallyAt_ne_cell (fun h => xfer_ne_bar _ (congrArg Prod.snd h)), tallyAt_ne_cell (fun h => xfer_ne_bar _ (congrArg Prod.snd h)),
    Finsupp.zero_apply, Nat.add_zero, Nat.add_zero]

theorem owed_bar (e : Dev nD) : owed₀ e (barCell c) () = (if e = onward false c then 1 else 0) + (if e = onward true c then 1 else 0) := by
  have hs : owed e 0 (barCell c) () = 0 := by
    by_contra h
    obtain ⟨d, j, -, h⟩ := owed_pos (Nat.pos_of_ne_zero h)
    exact xfer_ne_bar _ (congrArg Prod.snd h).symm
  unfold owed₀ owed₁
  rw [Pi.add_apply, Finsupp.add_apply, Pi.add_apply, Finsupp.add_apply, hs, Nat.zero_add, tallyAt_apply, tallyAt_apply]
  have hc (d : Bool) : (barCell c = barCell (onward d e) ∧ () = ()) ↔ e = onward (!d) c :=
    ⟨fun h => (onward_iff d).1 (barCell_iff.1 h.1).symm, fun h => ⟨by rw [(onward_iff d).2 h], rfl⟩⟩
  rw [if_congr (hc true) rfl rfl, if_congr (hc false) rfl rfl]
  rfl

theorem launch_recv (d : Bool) (j : Fin 15) :
    tallyOn (xCell d true j c) (launchCredit (Pipeline.owing owed₀) 0 (xCell d true j c)) = (tallyAt (xCell d true j c) () N : CellTallies nD τ sig Unit) := by
  unfold tallyAt; refine congrArg _ (Finsupp.ext fun u => ?_); cases u
  rw [Pipeline.launchCredit_owing, Finsupp.single_eq_same, Finset.sum_congr rfl fun e _ => owed_recv c d j e,
    Finset.sum_ite_eq' Finset.univ (onward (!d) c) fun _ => N, if_pos (Finset.mem_univ _)]

theorem launch_bar :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun e _ => owed_bar c e, Finset.sum_add_distrib,
    Finset.sum_ite_eq' Finset.univ (onward false c) fun _ => 1, Finset.sum_ite_eq' Finset.univ (onward true c) fun _ => 1,
    if_pos (Finset.mem_univ _), if_pos (Finset.mem_univ _)]

/-- The semaphores of a device that others pay. -/
def paidS : (Bool × Fin 15) ⊕ Unit → SemLoc sig
  | .inl (d, j) => .dma (xferS d true j)
  | .inr _ => .reg barS
theorem paidS_inj : Function.Injective paidS := by
  rintro (⟨d, j⟩ | _) (⟨d', j'⟩ | _) e
  · injection e with e
    obtain ⟨rfl, -, rfl⟩ := xferS_inj e
    rfl
  · exact absurd e (xfer_ne_bar _)
  · exact absurd e.symm (xfer_ne_bar _)
  · rfl

omit [FloatOps F] in
theorem bigSep_paid (Φ : (Bool × Fin 15) ⊕ Unit → sProp 𝕄) : bigSep Finset.univ Φ
    = iprop(((bigSep Finset.univ fun j => Φ (.inl (false, j))) ∗ bigSep Finset.univ fun j => Φ (.inl (true, j))) ∗ Φ (.inr ())) := by
  rw [bigSep_univ_sum, bigSep_univ_prod, bigSep_univ_eq_bigSepL [()] (by decide) (by decide), bigSepL_singleton,
    bigSep_univ_eq_bigSepL [false, true] (by decide) (by decide), bigSepL_cons_cons, bigSepL_singleton]
  rfl

omit [FloatOps F] in
theorem creds : (Pipeline.launchCred owed₀ c : sProp 𝕄) ⊢ credits c := by
  unfold Pipeline.launchCred credits
  rw [BI.bigSep_sdiff_split (Finset.subset_univ (Finset.univ.map ⟨paidS, paidS_inj⟩)), bigSep_map, bigSep_paid]
  show iprop(_ ∗ _) ⊢ _
  have hx (d : Bool) : (bigSep Finset.univ fun j : Fin 15 => (cred (tallyOn ((c : Thread nD τ), paidS (.inl (d, j)))
        (launchCredit (Pipeline.owing owed₀) 0 ((c : Thread nD τ), paidS (.inl (d, j))))) : sProp 𝕄))
      = bigSep Finset.univ fun j : Fin 15 => cred (tallyAt (xCell d true j c) () N) :=
    bigSep_congr fun j _ => congrArg _ (launch_recv c d j)
  have hb : (cred (tallyOn ((c : Thread nD τ), paidS (.inr ())) (launchCredit (Pipeline.owing owed₀) 0 ((c : Thread nD τ), paidS (.inr ())))) : sProp 𝕄)
      = cred (tallyAt (barCell c) () 2) := congrArg _ (launch_bar c)
  iintro ⟨⟨⟨HF, HT⟩, HB⟩, -⟩
  isplitl [HB]; · iapply (Entails.of_eq hb); iexact HB
  isplitl [HT]; · iapply (Entails.of_eq (hx true)); iexact HT
  iapply (Entails.of_eq (hx false)); iexact HF

/-! ## The launch theorem's side conditions -/

omit [FloatOps F] in
theorem start_intro :
    iprop(Pipeline.unscopedRestP Pipeline.Prefetch.none cfg0.spec c (fun b => m ((c : Thread nD τ).loc b)) ∗ levAts L lv
        ∗ Pipeline.launchCred owed₀ c ∗ prngReg c (ρ c) ∗ ready m c)
      ⊢ |={Set.univ}=> iprop(start m c ∗ emp) := by
  rw [Pipeline.unscopedRestP_none, unscopedRest0_eq]
  iintro ⟨⟨Hx, Hg⟩, Hlev, Hcr, -, HG⟩
  ihave Hc := (creds (F := F) c) $$ Hcr
  imodintro
  unfold start
  isplitl
  · isplitl [HG]; · (unfold ready; iexact HG)
    isplitl [Hc]; · iexact Hc
    isplitl [Hlev]; · iexact Hlev
    isplitl [Hx] <;> iassumption
  · iempintro

theorem phi_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before stAny
  iintro ⟨Hs, -, HsT, HsF⟩
  isplitl [Hs]; · iexact Hs
  isplitl [HsT]; · iexact HsT
  iexact HsF

/-- What is left of a device that the pipeline does not hold: its barrier semaphore at zero and its rows of `x`. -/
def kept : sProp 𝕄 := iprop(unscopedSems0 c ∗ (((c : Thread nD τ).loc main_arg0) ↦{fullShare} m ((c : Thread nD τ).loc main_arg0)))

omit [FloatOps F] in
theorem hops_done (d : Bool) : (hops c d 15 : sProp 𝕄)
    ⊢ iprop((bigSep Finset.univ fun j : Fin 15 => semVal (xCell d true j c) 0) ∗ bigSep Finset.univ fun j : Fin 15 => semVal (xCell d false j c) 0) := by
  unfold hops
  rw [← bigSep_sep']
  refine bigSep_mono fun j _ => ?_
  rw [if_neg (by have := j.isLt; omega)]
  exact Entails.refl _

theorem phi_exit : (dats m ρ 0 c).Φ (Fin.last cfg0.N) ⊢ iprop(kept m c ∗ Pipeline.ownSems0 osem c ∗ Pipeline.scopedRest cfg0.spec c) := by
  rw [show (dats m ρ 0 c).Φ (Fin.last cfg0.N) = left m c from rfl, scopedRest0_eq, ownSems0_eq]
  unfold kept
  rw [unscopedSems0_eq, bigSep_XI]
  unfold left copies stAny
  iintro ⟨Hx, HzB, HC, HhT, HhF, HsT, HsF⟩
  ihave HT := (hops_done (F := F) c true) $$ HhT
  ihave HF := (hops_done (F := F) c false) $$ HhF
  icases HT with ⟨HTr, HTs⟩
  icases HF with ⟨HFr, HFs⟩
  isplitl [HzB Hx]
  · isplitl [HzB] <;> iassumption
  isplitl [HC HTr HTs HFr HFs]
  · isplitl [HTr HTs HFr HFs]
    · isplitl [HFr HFs]
      · isplitl [HFs]; · iexact HFs
        iexact HFr
      isplitl [HTs]; · iexact HTs
      iexact HTr
    iexact HC
  isplitl [HsT]; · iexact HsT
  iexact HsF

theorem waits : (levAts L lv : sProp 𝕄) ⊢ Pipeline.cellsWaits cfgs (dats m ρ) () 0 c :=
  Pipeline.cellsWaits_intro cfgs (dats m ρ) () 0 c fun w s t => by
    have hl : lv ((c : Thread nD τ), .dma ((cfg0.win w).sem s)) () = 0 := lv_of_none c (by fin_cases w <;> fin_cases s <;> decide) ()
    rcases t with ⟨_ | _, ht⟩
    · exact mayWait_of c _ (owed₀ c) fun g u hp => ⟨(owed₀_pos hp).1, by rw [hl]; exact (owed₀_pos hp).2⟩
    · exact mayWait_of c _ 0 fun g u hp => absurd hp (lt_irrefl 0)

theorem share_full (w : Fin cfg0.W) : (dats m ρ 0 c).share w = fullShare := by unfold Dat.share; split <;> rfl

/-! ## The run -/

/-- The array of window `w` after the run. -/
def finalA (w : Fin cfg0.W) : Buf (Elt F) ((cfg0.win w).arr.view.loc (c : Thread nD τ)) := (dats m ρ 0 c).arrAt w cfg0.N

/-- What a run leaves on every device. -/
def Post (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)

omit [FloatOps F] in
theorem kept_read (s' : Phys nD τ sig (Elt F)) : iprop(kept m c ∗ emp ∗ SI s')
    ⊢ (|={Set.univ}=> iprop(⌜(∀ sm : SemLoc sig, sm.isScoped .tc = false → s'.mem.sem ((c : Thread nD τ), sm) = 0)
        ∧ s'.mem.mem ((c : Thread nD τ).loc main_arg0) = m ((c : Thread nD τ).loc main_arg0)⌝ ∗ SI s') : sProp 𝕄) := by
  unfold kept
  iintro ⟨⟨Hu, Hx⟩, -, HSI⟩
  ihave H := (persistent_entails_right (SI_pointsTo_agree (st := s') (ℓ := (c : Thread nD τ).loc main_arg0) (I := Finset.univ) (q := fullShare)
    (f := m ((c : Thread nD τ).loc main_arg0)))) $$ [HSI Hx]
  · isplitl [HSI] <;> iassumption
  icases H with ⟨%hx, HSI, -⟩
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => hx i (Finset.mem_univ i)⟩
  iexact HSI

set_option maxRecDepth 8000 in
/-- From any memory with all semaphores at zero, for any float values, every run of the sixteen devices ends, with each
    device's windows as computed, its rows of `x` unchanged, and every semaphore at zero. -/
theorem run_main : θ_run defs (onTc (τ := τ) (main (F := F))) (s₀ m ρ) (fun r => Post m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_full m ρ)
    (hdistinct := winFacts0.arr_inj)
    (O₀ := owed₀) (howed₀ := fun _ => rfl) (howedN := fun _ => rfl)
    (L := L) (lv := lv) (hL := L_of_ne) (hwaits := waits m ρ)
    (G := dealt m) (G' := ready m) (u₀ := u₀)
    (hu₀ := by
      unfold u₀
      iintro Hu
      ihave H := (ownU_pair _ _) $$ Hu
      icases H with ⟨HP, HX⟩
      ihave H := (own_ring (F := F)) $$ HX
      icases H with ⟨HX, -⟩
      imod (fund_ring m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi_intro m ρ) (hout := phi_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := kept_read m)
    (hQ := fun _ h hs => ⟨fun c => ⟨(h c).1, (h c).2.2.2⟩, sem_eq_zero hs fun c => (h c).2.2.1⟩)

end Cert.GatherMatmul

end
-- ==== Proof.Final.lean ====
/-
# What a run leaves in the arrays

Each window covers its whole array, so the two arrays are read off directly: the device's columns of `w` are unchanged,
and its result array holds the product the body computed. The three claims that a program ends quietly, with its
arguments unchanged, follow.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.GatherMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The arrays -/

/-- The columns of `w` the body works on are the array's contents. -/
theorem wAt_eq : wAt m ρ c = m ((c : Thread nD τ).loc main_arg1) := by
  have hz : (fun a => (win0_0.index (0 : Fin 1)) a * main_arg1.ty.shape.size a) = fun _ => 0 :=
    funext fun a => by fin_cases a <;> decide
  exact Memref.read_access_unit_zero (Elt F) main_arg1 hz (fun a => by fin_cases a <;> decide) _

/-- After the run the columns of `w` are what they were. -/
theorem finalA_w : finalA m ρ c (0 : Fin 2) = m ((c : Thread nD τ).loc main_arg1) :=
  (dats m ρ 0 c).arrAt_in (0 : Fin 2) rfl _

/-- After the run the result array, read through its window, is what the body left. -/
theorem finalA_read : (win0_1.blk (0 : Fin 1)).view.read (Elt F) (finalA m ρ c (1 : Fin 2)) = result m (wAt m ρ c) := by
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- After the run the result array is the product with the device's columns of `w`. -/
theorem finalA_result : finalA m ρ c (1 : Fin 2) = result m (m ((c : Thread nD τ).loc main_arg1)) := by
  have hz : (fun a => (win0_1.index (0 : Fin 1)) a * main_v1_0.ty.shape.size a) = fun _ => 0 :=
    funext fun a => by fin_cases a <;> decide
  have hr := Memref.read_access_unit_zero (Elt F) main_v1_0 hz (fun a => by fin_cases a <;> decide) (finalA m ρ c (1 : Fin 2))
  rw [← wAt_eq m ρ c]
  exact hr.symm.trans (finalA_read m ρ c)

/-- The run, read at the arrays the claims speak of. -/
theorem run_arrays : θ_run defs (onTc (τ := τ) (main (F := F))) (s₀ m ρ) (fun r => (∀ c : Dev nD,
      r.2.mem ((c : Thread nD τ).loc main_v1_0) = result m (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun _ h => ⟨fun c => ⟨((h.1 c).1 (1 : Fin 2)).trans (finalA_result m ρ c), (h.1 c).2,
    ((h.1 c).1 (0 : Fin 2)).trans (finalA_w m ρ c)⟩, h.2⟩) (run_main m ρ)

/-! ## The quiet endings -/

/-- The two printings of the kernel have the same body: the table's one entry is the same text. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- And so the same table of regions and pipelines. -/
theorem defs_eq : Cert.Kernel.defs (F := Bits) = Cert.KernelIdeal.defs (F := Bits) :=
  congrArg (Pipeline.defs Cert.KernelIdeal.pcfgs) bodies_eq

/-- The run, read only at the arguments and the semaphores. -/
theorem run_quiet : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun _ h => ⟨fun c => (h.1 c).2, h.2⟩) (run_arrays m ρ)

/-- The kernel as printed, at bit patterns. -/
theorem frame_kernel : Cert.quiescent_Kernel := by
  intro m ρ _
  rw [defs_eq]
  exact run_quiet (F := Bits) m ρ

/-- The kernel at exact arithmetic. -/
theorem frame_ideal : Cert.quiescent_KernelIdeal := fun m ρ _ => run_quiet (F := Ideal) m ρ

/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.GatherMatmul

end
-- ==== Proof.Value.lean ====
/-
# The result is the reference's

At exact arithmetic an entry of a device's result is the larger of zero and the sum, over the contracted coordinate, of a
row of the gathered `x` by a column of the device's part of `w`. Row `r` of the gathered `x` is row `r % 512` of device
`r / 512`, which is row `r` of the whole `x`, so the entry is the reference's at the same row and at the column the
device's part begins at plus the entry's own.
-/
module

public import proofs.«01_k».proof.Proof.Final
public import Idealize.ShloMosaic.Lib.StackMember
public import Idealize.ShloMosaic.Lib.Layout

@[expose] public section

noncomputable section

namespace Cert.GatherMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

abbrev S8192x8192 : Shape := Cert.ReferenceIdeal.S8192x8192
abbrev S8192x4096 : Shape := Cert.ReferenceIdeal.S8192x4096

set_option maxRecDepth 4000

/-! ## The rows of a piece -/

/-- Row `y` of piece `(d, s)` is the row of device `s` that lies `y` below the first row of direction `d`. -/
theorem rows_apply {F : FTy → Type} (m : (ℓ : Loc nD τ sig) → Buf (Elt F) ℓ) (d : Bool) (s : Dev nD) (y : Fin 256) (k : Fin 8192)
    (r : Fin 512) (hr : r.val = top d + y.val) : rows m d s (ValueIdx.ix2 y k) = xAt m s r k := by
  have h := half_emb ![s.val, top d, 0] (pieceOff_inb d s) (ValueIdx.ix2 y k)
  show gathered m ((piece d s).view.emb (ValueIdx.ix2 y k)) = _
  unfold gathered
  show xAt m _ _ _ = _
  congr 1
  · exact Fin.ext h.1
  · exact Fin.ext (h.2.1.trans hr.symm)
  · exact Fin.ext (h.2.2.trans (Nat.zero_add _))

/-! ## The two products -/

/-- The reference's value. -/
def refOut (X : FVec Ideal S8192x8192 .f32) (W : FVec Ideal S8192x4096 .f32) : FVec Ideal S8192x4096 .f32 :=
  maximumf (Host.dotGeneral Cert.ReferenceIdeal.dot_S8192x8192_S8192x4096_S8192x4096_1_0_0_1_n_n none X W)
    (broadcastInDim Cert.ReferenceIdeal.S8192x4096 ![] Cert.ReferenceIdeal.Gen.bcast_S_S8192x4096 (constant Cert.ReferenceIdeal.S_ .f32 0x00000000#32))

/-- An entry of it. -/
theorem refOut_apply (X : FVec Ideal S8192x8192 .f32) (W : FVec Ideal S8192x4096 .f32) (r : Fin 8192) (j : Fin 4096) :
    refOut X W (ValueIdx.ix2 r j) = FloatOps.maximumf (F := Ideal) (∑ k : Fin 8192, X (ValueIdx.ix2 r k) * W (ValueIdx.ix2 k j)) (FloatOps.ofBits .f32 0x00000000#32) := by
  show FloatOps.maximumf (F := Ideal) (Host.dotGeneral (DotDims.plain 8192 8192 4096) none X W (ValueIdx.ix2 r j)) _ = _
  rw [StackMember.dotGeneral_plain_apply]
  rfl

/-- An entry of the product of a piece by a device's columns of `w`. -/
theorem product_apply (x : FVec Ideal S256x8192 .f32) (w : FVec Ideal S8192x256 .f32) (y : Fin 256) (j : Fin 256) :
    k0_pay1 (F := Ideal) x w (ValueIdx.ix2 y j) = FloatOps.maximumf (F := Ideal) (∑ k : Fin 8192, x (ValueIdx.ix2 y k) * w (ValueIdx.ix2 k j)) (FloatOps.ofBits .f32 0x00000000#32) := by
  unfold k0_pay1
  rw [shapeCast_self]
  rw [matmul_zero_eq_dotGeneral]
  show FloatOps.maximumf (F := Ideal) (Host.dotGeneral (DotDims.plain 256 8192 256) none x w (ValueIdx.ix2 y j)) _ = _
  rw [StackMember.dotGeneral_plain_apply]
  rfl

/-! ## The blocks -/

/-- A device's result is its block of the reference's value, when its arguments are its blocks of the reference's. -/
theorem result_eq_block (m : (ℓ : Loc nD τ sig) → Buf (Elt Ideal) ℓ) (X : FVec Ideal S8192x8192 .f32) (W : FVec Ideal S8192x4096 .f32)
    (w : FVec Ideal S8192x256 .f32) (c : Dev nD)
    (hX : ∀ s : Dev nD, m ((s : Thread nD τ).loc main_arg0) = Layout.block ⟨2, ![512, 8192]⟩ ⟨2, ![8192, 8192]⟩ 0 16 s X)
    (hW : w = Layout.block ⟨2, ![8192, 256]⟩ ⟨2, ![8192, 4096]⟩ 1 16 c W) :
    result m w = Layout.block ⟨2, ![8192, 256]⟩ ⟨2, ![8192, 4096]⟩ 1 16 c (refOut X W) := by
  funext i
  obtain ⟨r, j, rfl⟩ : ∃ (r : Fin 8192) (j : Fin 256), i = ValueIdx.ix2 r j := ⟨i 0, i 1, ValueIdx.eq_ix2 i⟩
  have hj : c.val * 256 + j.val < 4096 := by have := dev_lt c; have := j.isLt; omega
  have hs : r.val / 512 < 16 := by have := r.isLt; omega
  have hb : ∀ (V : FVec Ideal S8192x4096 .f32) (k : Fin 8192),
      Layout.block ⟨2, ![8192, 256]⟩ ⟨2, ![8192, 4096]⟩ 1 16 c V (by decide) (ValueIdx.ix2 k j) = V (ValueIdx.ix2 k ⟨c.val * 256 + j.val, hj⟩) :=
    fun V k => congrArg V (funext fun a => by match a with | ⟨0, _⟩ => rfl | ⟨1, _⟩ => rfl)
  have hx : ∀ k : Fin 8192, xAt m ⟨r.val / 512, hs⟩ ⟨r.val % 512, Nat.mod_lt _ (by decide)⟩ k = X (ValueIdx.ix2 r k) := by
    intro k
    unfold xAt
    rw [hX]
    refine congrArg X (funext fun a => ?_)
    match a with
    | ⟨0, _⟩ => exact Fin.ext (show r.val / 512 * 512 + r.val % 512 = r.val by omega)
    | ⟨1, _⟩ => rfl
  have hrow : r.val % 512 = top (decide (r.val % 512 < 256)) + r.val % 256 := by
    unfold top
    by_cases h : r.val % 512 < 256 <;> simp only [h, decide_true, decide_false, if_true, Bool.false_eq_true, if_false] <;> omega
  have hsum : (∑ k : Fin 8192, rows m (decide (r.val % 512 < 256)) ⟨r.val / 512, hs⟩ (ValueIdx.ix2 ⟨r.val % 256, Nat.mod_lt _ (by decide)⟩ k) * w (ValueIdx.ix2 k j))
      = ∑ k : Fin 8192, X (ValueIdx.ix2 r k) * W (ValueIdx.ix2 k ⟨c.val * 256 + j.val, hj⟩) := by
    refine Finset.sum_congr rfl fun k _ => ?_
    rw [rows_apply m _ _ _ k ⟨r.val % 512, Nat.mod_lt _ (by decide)⟩ hrow, hx, hW, hb]
  have hi : (Fin.cons ⟨r.val % 256, Nat.mod_lt _ (by decide)⟩ (Fin.cons j finZeroElim) : S256x256.Idx)
      = ValueIdx.ix2 ⟨r.val % 256, Nat.mod_lt _ (by decide)⟩ j := ValueIdx.eq_ix2 _
  have hl := product_apply (rows m (decide (r.val % 512 < 256)) ⟨r.val / 512, hs⟩) w ⟨r.val % 256, Nat.mod_lt _ (by decide)⟩ j
  rw [hsum, ← hi, ← refOut_apply, ← hb (refOut X W) r] at hl
  exact hl

/-- The kernel's run and the reference's, from arguments that agree. -/
theorem algebraic : Cert.algebraic_KernelIdeal_ReferenceIdeal := by
  intro m ρ m' ρ' _ hagree
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono (fun _ h c =>
      ⟨((h.1 c).1).trans (result_eq_block m _ _ _ c (fun s => (hagree s).1) (hagree c).2), (h.1 c).2⟩) (run_arrays (F := Ideal) m ρ)
  · exact (θ_run Cert.ReferenceIdeal.defs _ _).mono (fun _ h => h 0) (Cert.ReferenceIdeal.Value.run (F := Ideal) m' ρ')

end Cert.GatherMatmul

end
-- ==== Proof.lean ====
/-
# The certificate

The three programs end quietly with their arguments unchanged (Proof/Final.lean), nothing was rewritten between the
kernel and its reading at exact arithmetic, and the kernel's result on each device is that device's block of the
reference's (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Value

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts,
  Cert.GatherMatmul.frame_kernel, Cert.GatherMatmul.frame_ideal, Cert.GatherMatmul.frame_reference, trivial,
  Cert.GatherMatmul.algebraic⟩

end Cert.Proof

end
